-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "scale" .f32 0x3D13CD3A#32 (((Real.sqrt 768)⁻¹ : ℝ) : EReal)
  ∧ IdealRules.named_const.Statement Cert.KernelIdeal.κ "neg" .bf16 0xFF7F#16 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x768 : Shape := ⟨2, ![1024, 768]⟩
abbrev S1024x2 : Shape := ⟨2, ![1024, 2]⟩
abbrev S768x768 : Shape := ⟨2, ![768, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S1024x1 : Shape := ⟨2, ![1024, 1]⟩
abbrev S1024 : Shape := ⟨1, ![1024]⟩
abbrev S1x1024 : Shape := ⟨2, ![1, 1024]⟩
abbrev S1x768 : Shape := ⟨2, ![1, 768]⟩
abbrev S1x3072 : Shape := ⟨2, ![1, 3072]⟩
abbrev S12 : Shape := ⟨1, ![12]⟩
abbrev S1 : Shape := ⟨1, ![1]⟩
abbrev S_ : Shape := ⟨0, ![]⟩
abbrev S256x768 : Shape := ⟨2, ![256, 768]⟩
abbrev S256x1024 : Shape := ⟨2, ![256, 1024]⟩
abbrev S256x1 : Shape := ⟨2, ![256, 1]⟩
abbrev S256 : Shape := ⟨1, ![256]⟩

abbrev nBuf : Space → Nat
  | .hbm => 38
  | .vmem => 28
  | .smem => 0
  | _ => 0

abbrev bufTy : (tb : Table) → Fin (tcTables nBuf tb) → BufTy
  | .hbm, ⟨0, _⟩ => ⟨S1024x768, .f32⟩
  | .hbm, ⟨1, _⟩ => ⟨S1024x2, .i32⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S768x768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S768, .f32⟩
  | .hbm, ⟨13, _⟩ => ⟨S768, .f32⟩
  | .hbm, ⟨14, _⟩ => ⟨S768x3072, .f32⟩
  | .hbm, ⟨15, _⟩ => ⟨S3072, .f32⟩
  | .hbm, ⟨16, _⟩ => ⟨S3072x768, .f32⟩
  | .hbm, ⟨17, _⟩ => ⟨S768, .f32⟩
  | .hbm, ⟨18, _⟩ => ⟨S1024x2, .f32⟩
  | .hbm, ⟨19, _⟩ => ⟨S1024x1, .f32⟩
  | .hbm, ⟨20, _⟩ => ⟨S1024x1, .f32⟩
  | .hbm, ⟨21, _⟩ => ⟨S1024x1, .f32⟩
  | .hbm, ⟨22, _⟩ => ⟨S1024, .f32⟩
  | .hbm, ⟨23, _⟩ => ⟨S1x1024, .f32⟩
  | .hbm, ⟨24, _⟩ => ⟨S1024x1, .f32⟩
  | .hbm, ⟨25, _⟩ => ⟨S1024, .f32⟩
  | .hbm, ⟨26, _⟩ => ⟨S1x1024, .f32⟩
  | .hbm, ⟨27, _⟩ => ⟨S1x768, .f32⟩
  | .hbm, ⟨28, _⟩ => ⟨S1x768, .f32⟩
  | .hbm, ⟨29, _⟩ => ⟨S1x768, .f32⟩
  | .hbm, ⟨30, _⟩ => ⟨S1x768, .f32⟩
  | .hbm, ⟨31, _⟩ => ⟨S1x768, .f32⟩
  | .hbm, ⟨32, _⟩ => ⟨S1x768, .f32⟩
  | .hbm, ⟨33, _⟩ => ⟨S1x768, .f32⟩
  | .hbm, ⟨34, _⟩ => ⟨S1x768, .f32⟩
  | .hbm, ⟨35, _⟩ => ⟨S1x3072, .f32⟩
  | .hbm, ⟨36, _⟩ => ⟨S1x768, .f32⟩
  | .hbm, ⟨37, _⟩ => ⟨S1024x768, .f32⟩
  | .local _ .vmem, ⟨0, _⟩ => ⟨S1024x768, .f32⟩
  | .local _ .vmem, ⟨1, _⟩ => ⟨S1024x1, .f32⟩
  | .local _ .vmem, ⟨2, _⟩ => ⟨S1x1024, .f32⟩
  | .local _ .vmem, ⟨3, _⟩ => ⟨S1024x1, .f32⟩
  | .local _ .vmem, ⟨4, _⟩ => ⟨S1x1024, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1x768, .f32⟩
  | .local _ .vmem, ⟨12, _⟩ => ⟨S1x768, .f32⟩
  | .local _ .vmem, ⟨13, _⟩ => ⟨S1x3072, .f32⟩
  | .local _ .vmem, ⟨14, _⟩ => ⟨S1x768, .f32⟩
  | .local _ .vmem, ⟨15, _⟩ => ⟨S1024x768, .f32⟩
  | .local _ .vmem, ⟨16, _⟩ => ⟨S1024x768, .f32⟩
  | .local _ .vmem, ⟨17, _⟩ => ⟨S1024x768, .f32⟩
  | .local _ .vmem, ⟨18, _⟩ => ⟨S1024x768, .f32⟩
  | .local _ .vmem, ⟨19, _⟩ => ⟨S768x768, .f32⟩
  | .local _ .vmem, ⟨20, _⟩ => ⟨S768x768, .f32⟩
  | .local _ .vmem, ⟨21, _⟩ => ⟨S768x768, .f32⟩
  | .local _ .vmem, ⟨22, _⟩ => ⟨S768x768, .f32⟩
  | .local _ .vmem, ⟨23, _⟩ => ⟨S768x3072, .f32⟩
  | .local _ .vmem, ⟨24, _⟩ => ⟨S3072x768, .f32⟩
  | .local _ .vmem, ⟨25, _⟩ => ⟨S1024x768, .f32⟩
  | .local _ .vmem, ⟨26, _⟩ => ⟨S1024x768, .f32⟩
  | .local _ .vmem, ⟨27, _⟩ => ⟨S1024x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![9], ![false]⟩

def k0_cond3 (i : grid0.Coords) : BitVec 1 :=
  let arg0 : BitVec 32 := BitVec.ofNat 32 (i 0).val
  let c1_i32_2 : BitVec 32 := 1#32
  let v6 : BitVec 1 := Scalar.cmpi .sge arg0 c1_i32_2
  let c4_i32 : BitVec 32 := 4#32
  let v7 : BitVec 1 := Scalar.cmpi .sle arg0 c4_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off1 (i : grid0.Coords) : Fin 2 → Nat :=
  let arg0 : BitVec 32 := BitVec.ofNat 32 (i 0).val
  let c1_i32_8 : BitVec 32 := 1#32
  let v23 : BitVec 32 := Scalar.subi arg0 c1_i32_8
  let c256_i32 : BitVec 32 := 256#32
  let v24 : BitVec 32 := Scalar.muli v23 c256_i32
  let v25 : Index := Scalar.indexCast v24
  let c0 : Index := 0#32
  ![v25.toNat, 0]
def k0_off2 (i : grid0.Coords) : Fin 2 → Nat :=
  let arg0 : BitVec 32 := BitVec.ofNat 32 (i 0).val
  let c1_i32_8 : BitVec 32 := 1#32
  let v23 : BitVec 32 := Scalar.subi arg0 c1_i32_8
  let c256_i32_13 : BitVec 32 := 256#32
  let v30 : BitVec 32 := Scalar.muli v23 c256_i32_13
  let v31 : Index := Scalar.indexCast v30
  let c0_14 : Index := 0#32
  ![v31.toNat, 0]
def k0_cond8 (i : grid0.Coords) : BitVec 1 :=
  let arg0 : BitVec 32 := BitVec.ofNat 32 (i 0).val
  let c8_i32 : BitVec 32 := 8#32
  let v20 : BitVec 1 := Scalar.cmpi .eq arg0 c8_i32
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "neg" => some ⊥
  | "scale" => some (((Real.sqrt 768)⁻¹ : ℝ) : EReal)
  | _ => none
-- ==== ReferenceIdeal.lean ====
abbrev S1024x768 : Shape := ⟨2, ![1024, 768]⟩
abbrev S1024x2 : Shape := ⟨2, ![1024, 2]⟩
abbrev S768x768 : Shape := ⟨2, ![768, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S_ : Shape := ⟨0, ![]⟩
abbrev S1024 : Shape := ⟨1, ![1024]⟩
abbrev S1024x1 : Shape := ⟨2, ![1024, 1]⟩
abbrev S1x768 : Shape := ⟨2, ![1, 768]⟩
abbrev S1x1024 : Shape := ⟨2, ![1, 1024]⟩
abbrev S1024x1024 : Shape := ⟨2, ![1024, 1024]⟩
abbrev S768x1024 : Shape := ⟨2, ![768, 1024]⟩
abbrev S1024x3072 : Shape := ⟨2, ![1024, 3072]⟩
abbrev S1x3072 : Shape := ⟨2, ![1, 3072]⟩

abbrev nBuf : Space → Nat
  | .hbm => 179
  | .vmem => 0
  | .smem => 0
  | _ => 0

abbrev hbmTy0_0 (i : Nat) : BufTy := match i % 128 with
  | 0 => ⟨S1024x768, .f32⟩
  | 1 => ⟨S1024x2, .i32⟩
  | 2 => ⟨S768x768, .f32⟩
  | 3 => ⟨S768, .f32⟩
  | 4 => ⟨S768x768, .f32⟩
  | 5 => ⟨S768, .f32⟩
  | 6 => ⟨S768x768, .f32⟩
  | 7 => ⟨S768, .f32⟩
  | 8 => ⟨S768x768, .f32⟩
  | 9 => ⟨S768, .f32⟩
  | 10 => ⟨S768, .f32⟩
  | 11 => ⟨S768, .f32⟩
  | 12 => ⟨S768, .f32⟩
  | 13 => ⟨S768, .f32⟩
  | 14 => ⟨S768x3072, .f32⟩
  | 15 => ⟨S3072, .f32⟩
  | 16 => ⟨S3072x768, .f32⟩
  | 17 => ⟨S768, .f32⟩
  | 18 => ⟨S_, .f32⟩
  | 19 => ⟨S1024, .f32⟩
  | 20 => ⟨S1024x1, .f32⟩
  | 21 => ⟨S_, .f32⟩
  | 22 => ⟨S1024x1, .f32⟩
  | 23 => ⟨S1024x1, .f32⟩
  | 24 => ⟨S1024x768, .f32⟩
  | 25 => ⟨S1024x768, .f32⟩
  | 26 => ⟨S1024x768, .f32⟩
  | 27 => ⟨S_, .f32⟩
  | 28 => ⟨S1024, .f32⟩
  | 29 => ⟨S1024x1, .f32⟩
  | 30 => ⟨S_, .f32⟩
  | 31 => ⟨S1024x1, .f32⟩
  | 32 => ⟨S1024x1, .f32⟩
  | 33 => ⟨S1024x768, .f32⟩
  | 34 => ⟨S1024x768, .f32⟩
  | 35 => ⟨S_, .f32⟩
  | 36 => ⟨S1024x1, .f32⟩
  | 37 => ⟨S1024x1, .f32⟩
  | 38 => ⟨S1024x1, .f32⟩
  | 39 => ⟨S1024x768, .f32⟩
  | 40 => ⟨S1024x768, .f32⟩
  | 41 => ⟨S1x768, .f32⟩
  | 42 => ⟨S1024x768, .f32⟩
  | 43 => ⟨S1024x768, .f32⟩
  | 44 => ⟨S1x768, .f32⟩
  | 45 => ⟨S1024x768, .f32⟩
  | 46 => ⟨S1024x768, .f32⟩
  | 47 => ⟨S1024x768, .f32⟩
  | 48 => ⟨S1x768, .f32⟩
  | 49 => ⟨S1024x768, .f32⟩
  | 50 => ⟨S1024x768, .f32⟩
  | 51 => ⟨S1024x768, .f32⟩
  | 52 => ⟨S1x768, .f32⟩
  | 53 => ⟨S1024x768, .f32⟩
  | 54 => ⟨S1024x768, .f32⟩
  | 55 => ⟨S1024x768, .f32⟩
  | 56 => ⟨S1x768, .f32⟩
  | 57 => ⟨S1024x768, .f32⟩
  | 58 => ⟨S1024x768, .f32⟩
  | 59 => ⟨S1024x2, .f32⟩
  | 60 => ⟨S1024x1, .f32⟩
  | 61 => ⟨S1024, .f32⟩
  | 62 => ⟨S1024x1, .f32⟩
  | 63 => ⟨S1024x1, .f32⟩
  | 64 => ⟨S1024, .f32⟩
  | 65 => ⟨S1x1024, .f32⟩
  | 66 => ⟨S1024x1024, .f32⟩
  | 67 => ⟨S1024x1024, .f32⟩
  | 68 => ⟨S1024x1024, .f32⟩
  | 69 => ⟨S1024x1024, .f32⟩
  | 70 => ⟨S1024x1, .f32⟩
  | 71 => ⟨S1024, .f32⟩
  | 72 => ⟨S1024x1, .f32⟩
  | 73 => ⟨S1024x1, .f32⟩
  | 74 => ⟨S1024, .f32⟩
  | 75 => ⟨S1x1024, .f32⟩
  | 76 => ⟨S1024x1024, .f32⟩
  | 77 => ⟨S1024x1024, .f32⟩
  | 78 => ⟨S1024x1024, .f32⟩
  | 79 => ⟨S1024x1024, .f32⟩
  | 80 => ⟨S_, .f32⟩
  | 81 => ⟨S1024x1024, .f32⟩
  | 82 => ⟨S1024x1024, .i1⟩
  | 83 => ⟨S_, .f32⟩
  | 84 => ⟨S1024x1024, .f32⟩
  | 85 => ⟨S1024x1024, .i1⟩
  | 86 => ⟨S1024x1024, .i1⟩
  | 87 => ⟨S1024x1024, .i32⟩
  | 88 => ⟨S1024x1024, .i32⟩
  | 89 => ⟨S_, .i32⟩
  | 90 => ⟨S1024x1024, .i32⟩
  | 91 => ⟨S1024x1024, .i32⟩
  | 92 => ⟨S1024x1024, .i1⟩
  | 93 => ⟨S1024x1024, .i1⟩
  | 94 => ⟨S1024x1024, .i1⟩
  | 95 => ⟨S768x1024, .f32⟩
  | 96 => ⟨S1024x1024, .f32⟩
  | 97 => ⟨S_, .f32⟩
  | 98 => ⟨S_, .f32⟩
  | 99 => ⟨S1024x1024, .f32⟩
  | 100 => ⟨S1024x1024, .f32⟩
  | 101 => ⟨S_, .f32⟩
  | 102 => ⟨S_, .f32⟩
  | 103 => ⟨S1024x1024, .f32⟩
  | 104 => ⟨S1024x1024, .f32⟩
  | 105 => ⟨S_, .f32⟩
  | 106 => ⟨S1024, .f32⟩
  | 107 => ⟨S1024x1, .f32⟩
  | 108 => ⟨S1024x1024, .f32⟩
  | 109 => ⟨S1024x1024, .f32⟩
  | 110 => ⟨S1024x1024, .f32⟩
  | 111 => ⟨S1024x1024, .f32⟩
  | 112 => ⟨S1024x1024, .f32⟩
  | 113 => ⟨S_, .f32⟩
  | 114 => ⟨S1024, .f32⟩
  | 115 => ⟨S1024x1, .f32⟩
  | 116 => ⟨S_, .f32⟩
  | 117 => ⟨S1024x1, .f32⟩
  | 118 => ⟨S1024x1, .f32⟩
  | 119 => ⟨S1024x1024, .f32⟩
  | 120 => ⟨S1024x1024, .f32⟩
  | 121 => ⟨S1024x768, .f32⟩
  | 122 => ⟨S_, .i1⟩
  | 123 => ⟨S1024, .i1⟩
  | 124 => ⟨S1024x1, .i1⟩
  | 125 => ⟨S1024x768, .i1⟩
  | 126 => ⟨S1024x768, .f32⟩
  | 127 => ⟨S1024x768, .f32⟩
  | _ => ⟨S1024x768, .f32⟩

abbrev hbmTy0_1 (i : Nat) : BufTy := match i % 128 with
  | 0 => ⟨S1024x768, .f32⟩
  | 1 => ⟨S1x768, .f32⟩
  | 2 => ⟨S1024x768, .f32⟩
  | 3 => ⟨S1024x768, .f32⟩
  | 4 => ⟨S_, .f32⟩
  | 5 => ⟨S1024, .f32⟩
  | 6 => ⟨S1024x1, .f32⟩
  | 7 => ⟨S_, .f32⟩
  | 8 => ⟨S1024x1, .f32⟩
  | 9 => ⟨S1024x1, .f32⟩
  | 10 => ⟨S1024x768, .f32⟩
  | 11 => ⟨S1024x768, .f32⟩
  | 12 => ⟨S1024x768, .f32⟩
  | 13 => ⟨S_, .f32⟩
  | 14 => ⟨S1024, .f32⟩
  | 15 => ⟨S1024x1, .f32⟩
  | 16 => ⟨S_, .f32⟩
  | 17 => ⟨S1024x1, .f32⟩
  | 18 => ⟨S1024x1, .f32⟩
  | 19 => ⟨S1024x768, .f32⟩
  | 20 => ⟨S1024x768, .f32⟩
  | 21 => ⟨S_, .f32⟩
  | 22 => ⟨S1024x1, .f32⟩
  | 23 => ⟨S1024x1, .f32⟩
  | 24 => ⟨S1024x1, .f32⟩
  | 25 => ⟨S1024x768, .f32⟩
  | 26 => ⟨S1024x768, .f32⟩
  | 27 => ⟨S1x768, .f32⟩
  | 28 => ⟨S1024x768, .f32⟩
  | 29 => ⟨S1024x768, .f32⟩
  | 30 => ⟨S1x768, .f32⟩
  | 31 => ⟨S1024x768, .f32⟩
  | 32 => ⟨S1024x768, .f32⟩
  | 33 => ⟨S1024x3072, .f32⟩
  | 34 => ⟨S1x3072, .f32⟩
  | 35 => ⟨S1024x3072, .f32⟩
  | 36 => ⟨S1024x3072, .f32⟩
  | 37 => ⟨S_, .f32⟩
  | 38 => ⟨S1024x3072, .f32⟩
  | 39 => ⟨S1024x3072, .f32⟩
  | 40 => ⟨S1024x3072, .f32⟩
  | 41 => ⟨S_, .f32⟩
  | 42 => ⟨S1024x3072, .f32⟩
  | 43 => ⟨S1024x3072, .f32⟩
  | 44 => ⟨S1024x3072, .f32⟩
  | 45 => ⟨S1024x3072, .f32⟩
  | 46 => ⟨S1024x768, .f32⟩
  | 47 => ⟨S1x768, .f32⟩
  | 48 => ⟨S1024x768, .f32⟩
  | 49 => ⟨S1024x768, .f32⟩
  | 50 => ⟨S1024x768, .f32⟩
  | _ => ⟨S1024x768, .f32⟩

abbrev hbmTy (i : Nat) : BufTy := match i / 128 with
  | 0 => hbmTy0_0 i
  | 1 => hbmTy0_1 i
  | _ => ⟨S1024x768, .f32⟩

abbrev bufTy : (tb : Table) → Fin (tcTables nBuf tb) → BufTy
  | .hbm, ⟨i, _⟩ => hbmTy i
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_4 : Ref sig .tc := ⟨.hbm, 80, rfl⟩
abbrev main_v57 : Ref sig .tc := ⟨.hbm, 81, rfl⟩
abbrev main_v58 : Ref sig .tc := ⟨.hbm, 82, rfl⟩
abbrev main_cst_5 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_6 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_7 : Ref sig .tc := ⟨.hbm, 101, rfl⟩
abbrev main_call0_v0 : Ref sig .tc := ⟨.hbm, 102, rfl⟩
abbrev main_call0_v1 : Ref sig .tc := ⟨.hbm, 103, rfl⟩
abbrev main_v74 : Ref sig .tc := ⟨.hbm, 104, rfl⟩
abbrev main_cst_8 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_9 : Ref sig .tc := ⟨.hbm, 113, rfl⟩
abbrev main_v82 : Ref sig .tc := ⟨.hbm, 114, rfl⟩
abbrev main_v83 : Ref sig .tc := ⟨.hbm, 115, rfl⟩
abbrev main_cst_10 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_11 : Ref sig .tc := ⟨.hbm, 122, rfl⟩
abbrev main_v89 : Ref sig .tc := ⟨.hbm, 123, rfl⟩
abbrev main_v90 : Ref sig .tc := ⟨.hbm, 124, rfl⟩
abbrev main_call1_v0 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_12 : Ref sig .tc := ⟨.hbm, 132, rfl⟩
abbrev main_v97 : Ref sig .tc := ⟨.hbm, 133, rfl⟩
abbrev main_v98 : Ref sig .tc := ⟨.hbm, 134, rfl⟩
abbrev main_cst_13 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_14 : Ref sig .tc := ⟨.hbm, 141, rfl⟩
abbrev main_v104 : Ref sig .tc := ⟨.hbm, 142, rfl⟩
abbrev main_v105 : Ref sig .tc := ⟨.hbm, 143, rfl⟩
abbrev main_cst_15 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_16 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_17 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_18 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩

abbrev nD : Nat := 1
abbrev τ : Topo := Topo.v7x

variable {F : FTy → Type} [FloatOps F]
-- ==== Proof.KI.Values.lean ====
/-
  What the kernel computes, named: the record of its operands, and the value each scratch buffer holds after
  each grid point as a plain function of that record. The kernel's own payload functions (`Gen.k0_payN`) are the
  only arithmetic here, so nothing is said yet of what they compute.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F] [Named F]

/-- The kernel's operands: the fifteen windows' blocks and the six weight arrays it copies in itself. -/
structure In (F : FTy → Type) where
  x : Vec F S1024x768 .f32
  xi : Vec F S1024x1 .f32
  xr : Vec F S1x1024 .f32
  yi : Vec F S1024x1 .f32
  yr : Vec F S1x1024 .f32
  Wq : Vec F S768x768 .f32
  Wk : Vec F S768x768 .f32
  Wv : Vec F S768x768 .f32
  bq : Vec F S1x768 .f32
  bk : Vec F S1x768 .f32
  bv : Vec F S1x768 .f32
  g1 : Vec F S1x768 .f32
  b1 : Vec F S1x768 .f32
  Wo : Vec F S768x768 .f32
  bo : Vec F S1x768 .f32
  g2 : Vec F S1x768 .f32
  b2 : Vec F S1x768 .f32
  W1 : Vec F S768x3072 .f32
  bf1 : Vec F S1x3072 .f32
  W2 : Vec F S3072x768 .f32
  bf2 : Vec F S1x768 .f32

variable (I : In F)

/-- The first layer norm of `x`. -/
def hV : FVec F S1024x768 .f32 := k0_pay5 I.x I.g1 I.b1
/-- The scaled queries, the keys and the values: what the first point leaves in the first three scratches. -/
def qV : FVec F S1024x768 .f32 := k0_pay6 (hV I) I.Wq I.bq
def kV : FVec F S1024x768 .f32 := k0_pay7 (hV I) I.Wk I.bk
def vV : FVec F S1024x768 .f32 := k0_pay8 (hV I) I.Wv I.bv

/-- Row block `b` starts at row `256 b`. -/
theorem rows_inb (b : Fin 4) : ∀ a, (![256 * b.val, 0] : Fin 2 → ℕ) a + S256x768.size a ≤ S1024x768.size a := by
  have := b.isLt
  intro a; fin_cases a
  · show 256 * b.val + 256 ≤ 1024; omega
  · show 0 + 768 ≤ 768; omega
theorem col_inb (b : Fin 4) : ∀ a, (![256 * b.val, 0] : Fin 2 → ℕ) a + S256x1.size a ≤ S1024x1.size a := by
  have := b.isLt
  intro a; fin_cases a
  · show 256 * b.val + 256 ≤ 1024; omega
  · show 0 + 1 ≤ 1; omega

/-- Rows `256 b … 256 b + 255` of a matrix, of a column. -/
def rowsOf (b : Fin 4) (v : Vec F S1024x768 .f32) : Vec F S256x768 .f32 := window v ![256 * b.val, 0] S256x768.size (rows_inb b)
def colOf (b : Fin 4) (v : Vec F S1024x1 .f32) : Vec F S256x1 .f32 := window v ![256 * b.val, 0] S256x1.size (col_inb b)

/-- The grid word at which row block `b` is computed. -/
def gw (b : Fin 4) : BitVec 32 := BitVec.ofNat 32 (b.val + 1)

/-- Row block `b` after the attention and its residual addition. -/
def blkV (b : Fin 4) : FVec F S256x768 .f32 :=
  k0_pay11 (vV I) (k0_pay9 (gw b) (colOf b I.xi) (colOf b I.yi) I.xr I.yr)
    (k0_pay10 (gw b) (rowsOf b (qV I)) (kV I) (colOf b I.xi) (colOf b I.yi) I.xr I.yr)
    (rowsOf b (vV I)) (rowsOf b I.x) I.Wo I.bo
/-- What row block `b` of the two row-blocked scratches holds: the residual stream and its layer norm. -/
def xnB (b : Fin 4) : FVec F S256x768 .f32 := k0_pay1 (blkV I b)
def h2B (b : Fin 4) : FVec F S256x768 .f32 := k0_pay2 (blkV I b) I.g2 I.b2

/-- The row block of a row, and the row's place in it. -/
def blkOf (y : S1024x768.Idx) : Fin 4 := ⟨(y 0).val / 256, by have := (y 0).isLt; exact Nat.div_lt_of_lt_mul this⟩
def inBlk (y : S1024x768.Idx) : S256x768.Idx := fun a => match a with
  | ⟨0, _⟩ => ⟨(y 0).val % 256, Nat.mod_lt _ (by decide)⟩
  | ⟨1, _⟩ => ⟨(y 1).val, (y 1).isLt⟩

/-- The two row-blocked scratches once every block is written. -/
def xnV : Vec F S1024x768 .f32 := fun y => xnB I (blkOf y) (inBlk y)
def h2V : Vec F S1024x768 .f32 := fun y => h2B I (blkOf y) (inBlk y)

/-- Column chunk `c` of `W1` and of its bias, row chunk `c` of `W2`. -/
def w1C0 : Vec F S768x768 .f32 := window I.W1 ![0, 0] S768x768.size inb_S768x3072_S768x768_0_0
def w1C1 : Vec F S768x768 .f32 := window I.W1 ![0, 768] S768x768.size inb_S768x3072_S768x768_0_768
def w1C2 : Vec F S768x768 .f32 := window I.W1 ![0, 1536] S768x768.size inb_S768x3072_S768x768_0_1536
def w1C3 : Vec F S768x768 .f32 := window I.W1 ![0, 2304] S768x768.size inb_S768x3072_S768x768_0_2304
def w2C0 : Vec F S768x768 .f32 := window I.W2 ![0, 0] S768x768.size inb_S3072x768_S768x768_0_0
def w2C1 : Vec F S768x768 .f32 := window I.W2 ![768, 0] S768x768.size inb_S3072x768_S768x768_768_0
def w2C2 : Vec F S768x768 .f32 := window I.W2 ![1536, 0] S768x768.size inb_S3072x768_S768x768_1536_0
def w2C3 : Vec F S768x768 .f32 := window I.W2 ![2304, 0] S768x768.size inb_S3072x768_S768x768_2304_0
def bfC0 : Vec F S1x768 .f32 := window I.bf1 ![0, 0] S1x768.size inb_S1x3072_S1x768_0_0
def bfC1 : Vec F S1x768 .f32 := window I.bf1 ![0, 768] S1x768.size inb_S1x3072_S1x768_0_768
def bfC2 : Vec F S1x768 .f32 := window I.bf1 ![0, 1536] S1x768.size inb_S1x3072_S1x768_0_1536
def bfC3 : Vec F S1x768 .f32 := window I.bf1 ![0, 2304] S1x768.size inb_S1x3072_S1x768_0_2304

/-- The accumulator of the last layer after one, two and three chunks, and the result. -/
def f1V : FVec F S1024x768 .f32 := k0_pay3 (h2V I) (w1C0 I) (bfC0 I) (w2C0 I)
def f2V : FVec F S1024x768 .f32 := k0_pay12 (h2V I) (w1C1 I) (bfC1 I) (w2C1 I) (f1V I)
def f3V : FVec F S1024x768 .f32 := k0_pay13 (h2V I) (w1C2 I) (bfC2 I) (w2C2 I) (f2V I)
def outV : FVec F S1024x768 .f32 := k0_pay4 (k0_pay14 (h2V I) (w1C3 I) (bfC3 I) (w2C3 I) (xnV I) (f3V I)) I.bf2

end Cert.KernelIdeal.Hand

end
-- ==== Proof.KI.State.lean ====
/-
  What is held at each grid point, as one assertion per point. The windows are held at the operands' values; the
  scratches at the values `Values` names, or at anything while nobody reads them; a copy under way is a `Flight`
  that carries, for its wait, the destination at what the source holds and the source itself.
-/
module

public import proofs.«01_k».proof.Proof.KI.Values

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- A memref held whole at the value `v`, at anything; a transfer cell at rest. -/
abbrev hold (c : Dev nD) {sp : Space} {S : Shape} {e : EltTy} (M : Memref sig .tc sp S e) (v : S.Idx → Elt F e) : sProp 𝕄 :=
  M.view.loc (c : Thread nD τ) ↦[M.view.set]{fullShare} M.view.rep v
abbrev anyAt (F : FTy → Type) [FloatOps F] [Named F] (c : Dev nD) {sp : Space} {S : Shape} {e : EltTy} (M : Memref sig .tc sp S e) : sProp 𝕄 :=
  iprop(∃ f, M.view.loc (c : Thread nD τ) ↦[M.view.set]{fullShare} f)
abbrev cell (F : FTy → Type) [FloatOps F] [Named F] (c : Dev nD) (k : DmaSem sig) : sProp 𝕄 := semVal ((c : Thread nD τ), SemLoc.dma k) 0
/-- A copy of `src`, which holds `v`, into `dst` under way on cell `k`. -/
abbrev flying (c : Dev nD) (k : DmaSem sig) (n : ℕ) {sp sp' : Space} {S : Shape} {e : EltTy}
    (dst : Memref sig .tc sp S e) (src : Memref sig .tc sp' S e) (v : S.Idx → Elt F e) : sProp 𝕄 :=
  Transfers.Flight (countersEmb (U := Pipeline.UD sig nD τ)) (c : Thread nD τ) (SemLoc.dma k) default n iprop(hold c dst v ∗ hold c src v)

/-- What the executor's copy carries is `flying`'s: the destination overwritten whole is the destination at the payload. -/
theorem flying_of (c : Dev nD) (k : DmaSem sig) (n : ℕ) {sp sp' : Space} {S : Shape} {e : EltTy}
    (dst : Memref sig .tc sp S e) (src : Memref sig .tc sp' S e) (v p : S.Idx → Elt F e) (fd : Buf (Elt F) (dst.view.loc (c : Thread nD τ))) (hp : p = v) :
    Transfers.Flight (countersEmb (U := Pipeline.UD sig nD τ)) (c : Thread nD τ) (SemLoc.dma k) default n
        iprop((dst.view.loc (c : Thread nD τ) ↦[dst.view.set]{fullShare} dst.view.writes (Elt F) fd [⟨Rect.whole S, p⟩]) ∗ hold c src v)
      ⊢ (flying c k n dst src v : sProp 𝕄) := by
  subst hp
  have h : (dst.view.loc (c : Thread nD τ) ↦[dst.view.set]{fullShare} dst.view.writes (Elt F) fd [⟨Rect.whole S, p⟩] : sProp 𝕄) = hold c dst p := by
    rw [pointsTo_rep (c : Thread nD τ) dst, View.read_writes_whole]
  rw [h]

/-- A store of a whole memref leaves it holding the payload. -/
theorem stored (c : Dev nD) {sp : Space} {S : Shape} {e : EltTy} (M : Memref sig .tc sp S e) (f : Buf (Elt F) (M.view.loc (c : Thread nD τ)))
    {off : Fin S.rank → ℕ} (inb : ∀ a, off a + S.size a ≤ S.size a) (w X : S.Idx → Elt F e) (h : w = X) :
    (M.view.loc (c : Thread nD τ) ↦[M.view.set]{fullShare} M.view.writes (Elt F) f [⟨Rect.unit off S.size inb, w⟩] : sProp 𝕄) ⊢ hold c M X :=
  pointsTo_rep_of_read (c : Thread nD τ) M _ fullShare X ((View.read_writes_full _ _ _ _ _).trans h)

/-- A load of the whole of what a copy delivered reads what it delivered. -/
theorem read_landed {sp : Space} {S : Shape} {e : EltTy} (v : View sig .tc sp S e) {off : Fin S.rank → ℕ} (inb : ∀ a, off a + S.size a ≤ S.size a)
    (p X : S.Idx → Elt F e) (h : p = X) : v.readCov [⟨Rect.whole S, p⟩] (Rect.unit off S.size inb).toLoadRect = X := by
  subst h
  unfold View.readCov
  rw [View.readAt_full, View.read_writes_whole]

/-- Whatever a memref holds, it holds something. -/
theorem anyAt_of (c : Dev nD) {sp : Space} {S : Shape} {e : EltTy} (M : Memref sig .tc sp S e) (f : Buf (Elt F) (M.view.loc (c : Thread nD τ))) :
    (M.view.loc (c : Thread nD τ) ↦[M.view.set]{fullShare} f : sProp 𝕄) ⊢ anyAt F c M := by
  iintro H; iexists f; iexact H

section Memrefs

/-- Column chunks of `W1` and of its scratch, row chunks of `W2` and of its scratch, as the body spells them. -/
abbrev w1H0 := (Memref.whole main_arg14 : Memref sig .tc .hbm S768x3072 .f32).slice (Rect.unit (s := S768x3072) ![0, 0] S768x768.size inb_S768x3072_S768x768_0_0) (fun _ => rfl)
abbrev w1H1 := (Memref.whole main_arg14 : Memref sig .tc .hbm S768x3072 .f32).slice (Rect.unit (s := S768x3072) ![0, 768] S768x768.size inb_S768x3072_S768x768_0_768) (fun _ => rfl)
abbrev w1H2 := (Memref.whole main_arg14 : Memref sig .tc .hbm S768x3072 .f32).slice (Rect.unit (s := S768x3072) ![0, 1536] S768x768.size inb_S768x3072_S768x768_0_1536) (fun _ => rfl)
abbrev w1H3 := (Memref.whole main_arg14 : Memref sig .tc .hbm S768x3072 .f32).slice (Rect.unit (s := S768x3072) ![0, 2304] S768x768.size inb_S768x3072_S768x768_0_2304) (fun _ => rfl)
abbrev w1S0 := (Memref.whole cc0_scratch7 : Memref sig .tc .vmem S768x3072 .f32).slice (Rect.unit (s := S768x3072) ![0, 0] S768x768.size inb_S768x3072_S768x768_0_0) (fun _ => rfl)
abbrev w1S1 := (Memref.whole cc0_scratch7 : Memref sig .tc .vmem S768x3072 .f32).slice (Rect.unit (s := S768x3072) ![0, 768] S768x768.size inb_S768x3072_S768x768_0_768) (fun _ => rfl)
abbrev w1S2 := (Memref.whole cc0_scratch7 : Memref sig .tc .vmem S768x3072 .f32).slice (Rect.unit (s := S768x3072) ![0, 1536] S768x768.size inb_S768x3072_S768x768_0_1536) (fun _ => rfl)
abbrev w1S3 := (Memref.whole cc0_scratch7 : Memref sig .tc .vmem S768x3072 .f32).slice (Rect.unit (s := S768x3072) ![0, 2304] S768x768.size inb_S768x3072_S768x768_0_2304) (fun _ => rfl)
abbrev w2H0 := (Memref.whole main_arg16 : Memref sig .tc .hbm S3072x768 .f32).slice (Rect.unit (s := S3072x768) ![0, 0] S768x768.size inb_S3072x768_S768x768_0_0) (fun _ => rfl)
abbrev w2H1 := (Memref.whole main_arg16 : Memref sig .tc .hbm S3072x768 .f32).slice (Rect.unit (s := S3072x768) ![768, 0] S768x768.size inb_S3072x768_S768x768_768_0) (fun _ => rfl)
abbrev w2H2 := (Memref.whole main_arg16 : Memref sig .tc .hbm S3072x768 .f32).slice (Rect.unit (s := S3072x768) ![1536, 0] S768x768.size inb_S3072x768_S768x768_1536_0) (fun _ => rfl)
abbrev w2H3 := (Memref.whole main_arg16 : Memref sig .tc .hbm S3072x768 .f32).slice (Rect.unit (s := S3072x768) ![2304, 0] S768x768.size inb_S3072x768_S768x768_2304_0) (fun _ => rfl)
abbrev w2S0 := (Memref.whole cc0_scratch8 : Memref sig .tc .vmem S3072x768 .f32).slice (Rect.unit (s := S3072x768) ![0, 0] S768x768.size inb_S3072x768_S768x768_0_0) (fun _ => rfl)
abbrev w2S1 := (Memref.whole cc0_scratch8 : Memref sig .tc .vmem S3072x768 .f32).slice (Rect.unit (s := S3072x768) ![768, 0] S768x768.size inb_S3072x768_S768x768_768_0) (fun _ => rfl)
abbrev w2S2 := (Memref.whole cc0_scratch8 : Memref sig .tc .vmem S3072x768 .f32).slice (Rect.unit (s := S3072x768) ![1536, 0] S768x768.size inb_S3072x768_S768x768_1536_0) (fun _ => rfl)
abbrev w2S3 := (Memref.whole cc0_scratch8 : Memref sig .tc .vmem S3072x768 .f32).slice (Rect.unit (s := S3072x768) ![2304, 0] S768x768.size inb_S3072x768_S768x768_2304_0) (fun _ => rfl)

end Memrefs

variable (a1 : Memref sig .tc .vmem S1024x768 .f32) (h1 : a1.IsWhole) (a2 : Memref sig .tc .vmem S1024x1 .f32) (h2 : a2.IsWhole)
  (a3 : Memref sig .tc .vmem S1x1024 .f32) (h3 : a3.IsWhole) (a4 : Memref sig .tc .vmem S1024x1 .f32) (h4 : a4.IsWhole)
  (a5 : Memref sig .tc .vmem S1x1024 .f32) (h5 : a5.IsWhole)
  (a9 : Memref sig .tc .vmem S1x768 .f32) (h9 : a9.IsWhole) (a10 : Memref sig .tc .vmem S1x768 .f32) (h10 : a10.IsWhole)
  (a11 : Memref sig .tc .vmem S1x768 .f32) (h11 : a11.IsWhole) (a12 : Memref sig .tc .vmem S1x768 .f32) (h12 : a12.IsWhole)
  (a13 : Memref sig .tc .vmem S1x768 .f32) (h13 : a13.IsWhole) (a15 : Memref sig .tc .vmem S1x768 .f32) (h15 : a15.IsWhole)
  (a16 : Memref sig .tc .vmem S1x768 .f32) (h16 : a16.IsWhole) (a17 : Memref sig .tc .vmem S1x768 .f32) (h17 : a17.IsWhole)
  (a19 : Memref sig .tc .vmem S1x3072 .f32) (h19 : a19.IsWhole) (a21 : Memref sig .tc .vmem S1x768 .f32) (h21 : a21.IsWhole)
  (a22 : Memref sig .tc .vmem S1024x768 .f32) (h22 : a22.IsWhole)

/-- The body on the staging memrefs it is called with. -/
abbrev prog (i : grid0.Coords) : Prog (TpuEff nD τ sig (Elt F) Λ₀ .tc) PUnit :=
  cc0__body i a1 h1 a2 h2 a3 h3 a4 h4 a5 h5 (Memref.whole main_arg2) (Memref.isWhole_whole _) (Memref.whole main_arg4) (Memref.isWhole_whole _)
    (Memref.whole main_arg6) (Memref.isWhole_whole _) a9 h9 a10 h10 a11 h11 a12 h12 a13 h13 (Memref.whole main_arg8) (Memref.isWhole_whole _)
    a15 h15 a16 h16 a17 h17 (Memref.whole main_arg14) (Memref.isWhole_whole _) a19 h19 (Memref.whole main_arg16) (Memref.isWhole_whole _) a21 h21 a22 h22
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _) cc0_scratch12

/-- The fifteen read windows, at the operands. -/
def wins (c : Dev nD) (I : In F) : sProp 𝕄 :=
  iprop(hold c a1 I.x ∗ hold c a2 I.xi ∗ hold c a3 I.xr ∗ hold c a4 I.yi ∗ hold c a5 I.yr ∗ hold c a9 I.bq ∗ hold c a10 I.bk ∗ hold c a11 I.bv
    ∗ hold c a12 I.g1 ∗ hold c a13 I.b1 ∗ hold c a15 I.bo ∗ hold c a16 I.g2 ∗ hold c a17 I.b2 ∗ hold c a19 I.bf1 ∗ hold c a21 I.bf2)

/-- What no point after the first touches: three weights, the scratches they were copied to, and their cells. -/
def idleSt (c : Dev nD) (I : In F) : sProp 𝕄 :=
  iprop(hold c (Memref.whole main_arg2) I.Wq ∗ hold c (Memref.whole main_arg4) I.Wk ∗ hold c (Memref.whole main_arg6) I.Wv
    ∗ anyAt F c (Memref.whole cc0_scratch3) ∗ anyAt F c (Memref.whole cc0_scratch4) ∗ anyAt F c (Memref.whole cc0_scratch5)
    ∗ cell F c ⟨16, by decide⟩ ∗ cell F c ⟨17, by decide⟩ ∗ cell F c ⟨18, by decide⟩)
/-- The two last weights at rest, and their scratches and cells. -/
def restSt (c : Dev nD) (I : In F) : sProp 𝕄 :=
  iprop(hold c (Memref.whole main_arg14) I.W1 ∗ hold c (Memref.whole main_arg16) I.W2
    ∗ anyAt F c (Memref.whole cc0_scratch7) ∗ anyAt F c (Memref.whole cc0_scratch8)
    ∗ cell F c ⟨20, by decide⟩ ∗ cell F c ⟨21, by decide⟩ ∗ cell F c ⟨22, by decide⟩ ∗ cell F c ⟨23, by decide⟩ ∗ cell F c ⟨24, by decide⟩ ∗ cell F c ⟨25, by decide⟩ ∗ cell F c ⟨26, by decide⟩ ∗ cell F c ⟨27, by decide⟩)
/-- Queries, keys and values. -/
def qkvSt (c : Dev nD) (I : In F) : sProp 𝕄 :=
  iprop(hold c (Memref.whole cc0_scratch0) (qV I) ∗ hold c (Memref.whole cc0_scratch1) (kV I) ∗ hold c (Memref.whole cc0_scratch2) (vV I))
/-- `Wo` on its way, and arrived. -/
def woFly (c : Dev nD) (I : In F) : sProp 𝕄 := flying c ⟨19, by decide⟩ 73728 (Memref.whole cc0_scratch6) (Memref.whole main_arg8) I.Wo
def woSt (c : Dev nD) (I : In F) : sProp 𝕄 :=
  iprop(hold c (Memref.whole cc0_scratch6) I.Wo ∗ hold c (Memref.whole main_arg8) I.Wo ∗ cell F c ⟨19, by decide⟩)

/-- Chunk `j` of the two last weights on its way, and arrived. -/
def fly0 (c : Dev nD) (I : In F) : sProp 𝕄 := iprop(flying c ⟨20, by decide⟩ 73728 w1S0 w1H0 (w1C0 I) ∗ flying c ⟨21, by decide⟩ 73728 w2S0 w2H0 (w2C0 I))
def fly1 (c : Dev nD) (I : In F) : sProp 𝕄 := iprop(flying c ⟨22, by decide⟩ 73728 w1S1 w1H1 (w1C1 I) ∗ flying c ⟨23, by decide⟩ 73728 w2S1 w2H1 (w2C1 I))
def fly2 (c : Dev nD) (I : In F) : sProp 𝕄 := iprop(flying c ⟨24, by decide⟩ 73728 w1S2 w1H2 (w1C2 I) ∗ flying c ⟨25, by decide⟩ 73728 w2S2 w2H2 (w2C2 I))
def fly3 (c : Dev nD) (I : In F) : sProp 𝕄 := iprop(flying c ⟨26, by decide⟩ 73728 w1S3 w1H3 (w1C3 I) ∗ flying c ⟨27, by decide⟩ 73728 w2S3 w2H3 (w2C3 I))
def land0 (c : Dev nD) (I : In F) : sProp 𝕄 :=
  iprop(hold c w1S0 (w1C0 I) ∗ hold c w1H0 (w1C0 I) ∗ hold c w2S0 (w2C0 I) ∗ hold c w2H0 (w2C0 I) ∗ cell F c ⟨20, by decide⟩ ∗ cell F c ⟨21, by decide⟩)
def land1 (c : Dev nD) (I : In F) : sProp 𝕄 :=
  iprop(hold c w1S1 (w1C1 I) ∗ hold c w1H1 (w1C1 I) ∗ hold c w2S1 (w2C1 I) ∗ hold c w2H1 (w2C1 I) ∗ cell F c ⟨22, by decide⟩ ∗ cell F c ⟨23, by decide⟩)
def land2 (c : Dev nD) (I : In F) : sProp 𝕄 :=
  iprop(hold c w1S2 (w1C2 I) ∗ hold c w1H2 (w1C2 I) ∗ hold c w2S2 (w2C2 I) ∗ hold c w2H2 (w2C2 I) ∗ cell F c ⟨24, by decide⟩ ∗ cell F c ⟨25, by decide⟩)
def land3 (c : Dev nD) (I : In F) : sProp 𝕄 :=
  iprop(hold c w1S3 (w1C3 I) ∗ hold c w1H3 (w1C3 I) ∗ hold c w2S3 (w2C3 I) ∗ hold c w2H3 (w2C3 I) ∗ cell F c ⟨26, by decide⟩ ∗ cell F c ⟨27, by decide⟩)

/-- The first `n` row blocks of `v` are those of `w`. -/
def Agree (n : ℕ) (w v : Vec F S1024x768 .f32) : Prop := ∀ y : S1024x768.Idx, (y 0).val < 256 * n → v y = w y
/-- The two row-blocked scratches with their first `n` blocks written. -/
def partSt (c : Dev nD) (I : In F) (n : ℕ) : sProp 𝕄 :=
  iprop((∃ v, ⌜Agree n (xnV I) v⌝ ∗ hold c (Memref.whole cc0_scratch9) v) ∗ (∃ v, ⌜Agree n (h2V I) v⌝ ∗ hold c (Memref.whole cc0_scratch10) v))
def fullSt (c : Dev nD) (I : In F) : sProp 𝕄 :=
  iprop(hold c (Memref.whole cc0_scratch9) (xnV I) ∗ hold c (Memref.whole cc0_scratch10) (h2V I))

/-- Before the first point, after it, after block `n` of the second to fifth, and after each of the last four. -/
def st0 (c : Dev nD) (I : In F) : sProp 𝕄 :=
  iprop(idleSt c I ∗ hold c (Memref.whole main_arg8) I.Wo ∗ anyAt F c (Memref.whole cc0_scratch0) ∗ anyAt F c (Memref.whole cc0_scratch1)
    ∗ anyAt F c (Memref.whole cc0_scratch2) ∗ anyAt F c (Memref.whole cc0_scratch6) ∗ cell F c ⟨19, by decide⟩ ∗ restSt c I
    ∗ anyAt F c (Memref.whole cc0_scratch9) ∗ anyAt F c (Memref.whole cc0_scratch10) ∗ anyAt F c (Memref.whole cc0_scratch11))
def st1 (c : Dev nD) (I : In F) : sProp 𝕄 :=
  iprop(idleSt c I ∗ qkvSt c I ∗ woFly c I ∗ restSt c I
    ∗ anyAt F c (Memref.whole cc0_scratch9) ∗ anyAt F c (Memref.whole cc0_scratch10) ∗ anyAt F c (Memref.whole cc0_scratch11))
def stB (c : Dev nD) (I : In F) (n : ℕ) : sProp 𝕄 :=
  iprop(idleSt c I ∗ qkvSt c I ∗ woSt c I ∗ (fly0 c I ∗ fly1 c I ∗ fly2 c I ∗ fly3 c I) ∗ partSt c I n ∗ anyAt F c (Memref.whole cc0_scratch11))
def st6 (c : Dev nD) (I : In F) : sProp 𝕄 :=
  iprop(idleSt c I ∗ qkvSt c I ∗ woSt c I ∗ (land0 c I ∗ fly1 c I ∗ fly2 c I ∗ fly3 c I) ∗ fullSt c I ∗ hold c (Memref.whole cc0_scratch11) (f1V I))
def st7 (c : Dev nD) (I : In F) : sProp 𝕄 :=
  iprop(idleSt c I ∗ qkvSt c I ∗ woSt c I ∗ (land0 c I ∗ land1 c I ∗ fly2 c I ∗ fly3 c I) ∗ fullSt c I ∗ hold c (Memref.whole cc0_scratch11) (f2V I))
def st8 (c : Dev nD) (I : In F) : sProp 𝕄 :=
  iprop(idleSt c I ∗ qkvSt c I ∗ woSt c I ∗ (land0 c I ∗ land1 c I ∗ land2 c I ∗ fly3 c I) ∗ fullSt c I ∗ hold c (Memref.whole cc0_scratch11) (f3V I))
def st9 (c : Dev nD) (I : In F) : sProp 𝕄 :=
  iprop(idleSt c I ∗ qkvSt c I ∗ woSt c I ∗ (land0 c I ∗ land1 c I ∗ land2 c I ∗ land3 c I) ∗ fullSt c I ∗ hold c (Memref.whole cc0_scratch11) (f3V I))

end Cert.KernelIdeal.Hand

end
-- ==== Proof.KI.Run0.lean ====
/-
  The first grid point: the four weight copies are started, three are waited for, and the layer norm's three
  projections are stored; the copy of `Wo` is left under way.
-/
module

public import proofs.«01_k».proof.Proof.KI.State

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (a1 : Memref sig .tc .vmem S1024x768 .f32) (h1 : a1.IsWhole) (a2 : Memref sig .tc .vmem S1024x1 .f32) (h2 : a2.IsWhole)
  (a3 : Memref sig .tc .vmem S1x1024 .f32) (h3 : a3.IsWhole) (a4 : Memref sig .tc .vmem S1024x1 .f32) (h4 : a4.IsWhole)
  (a5 : Memref sig .tc .vmem S1x1024 .f32) (h5 : a5.IsWhole)
  (a9 : Memref sig .tc .vmem S1x768 .f32) (h9 : a9.IsWhole) (a10 : Memref sig .tc .vmem S1x768 .f32) (h10 : a10.IsWhole)
  (a11 : Memref sig .tc .vmem S1x768 .f32) (h11 : a11.IsWhole) (a12 : Memref sig .tc .vmem S1x768 .f32) (h12 : a12.IsWhole)
  (a13 : Memref sig .tc .vmem S1x768 .f32) (h13 : a13.IsWhole) (a15 : Memref sig .tc .vmem S1x768 .f32) (h15 : a15.IsWhole)
  (a16 : Memref sig .tc .vmem S1x768 .f32) (h16 : a16.IsWhole) (a17 : Memref sig .tc .vmem S1x768 .f32) (h17 : a17.IsWhole)
  (a19 : Memref sig .tc .vmem S1x3072 .f32) (h19 : a19.IsWhole) (a21 : Memref sig .tc .vmem S1x768 .f32) (h21 : a21.IsWhole)
  (a22 : Memref sig .tc .vmem S1024x768 .f32) (h22 : a22.IsWhole)

theorem run0 (c : Dev nD) (I : In F) (W : Waits sig Unit) (K : PUnit → sProp 𝕄) :
    iprop(wins a1 a2 a3 a4 a5 a9 a10 a11 a12 a13 a15 a16 a17 a19 a21 c I ∗ st0 c I ∗ owes (c : Thread nD τ) 0 W
        ∗ (iprop(wins a1 a2 a3 a4 a5 a9 a10 a11 a12 a13 a15 a16 a17 a19 a21 c I ∗ st1 c I ∗ (∃ W', owes (c : Thread nD τ) 0 W')) -∗ K ⟨⟩))
      ⊢ wp frame (wpE (defs₀ (F := F)) Variants.none c none) Set.univ
          (prog a1 h1 a2 h2 a3 h3 a4 h4 a5 h5 a9 h9 a10 h10 a11 h11 a12 h12 a13 h13 a15 h15 a16 h16 a17 h17 a19 h19 a21 h21 a22 h22 (grid0.coords t0_0)) K := by
  simp only [prog, cc0__body_eq_skeleton]; unfold cc0__body_skel wins st0 st1 idleSt qkvSt woFly
  iintro ⟨⟨H1, H2, H3, H4, H5, H9, H10, H11, H12, H13, HR⟩, ⟨⟨HQ, HK, HV, ⟨%f3, S3⟩, ⟨%f4, S4⟩, ⟨%f5, S5⟩, C0, C1, C2⟩, HO, ⟨%f0, S0⟩, ⟨%f1, S1⟩, ⟨%f2, S2⟩, ⟨%f6, S6⟩, C3, HR2⟩, HW, Hk⟩
  sl_exec
  sl_step
  iapply Hk
  have eh : run0.sl.v57 a1 a12 a13 I = hV I := by
    unfold hV
    change k0_pay5 (View.readAt (Elt F) a1.view (Rect.unit (s := S1024x768) ![0, 0] S1024x768.size inb_S1024x768_S1024x768_0_0).toLoadRect (a1.view.rep I.x)) (View.readAt (Elt F) a12.view (Rect.unit (s := S1x768) ![0, 0] S1x768.size inb_S1x768_S1x768_0_0).toLoadRect (a12.view.rep I.g1)) (View.readAt (Elt F) a13.view (Rect.unit (s := S1x768) ![0, 0] S1x768.size inb_S1x768_S1x768_0_0).toLoadRect (a13.view.rep I.b1)) = _
    rw [View.readAt_rep_full, View.readAt_rep_full, View.readAt_rep_full]
  have eq : run0.sl.v60 I = I.Wq := by
    unfold run0.sl.v60
    exact read_landed (S := S768x768) _ _ _ _ (View.read_rep _ _)
  have ek : run0.sl.v73 I = I.Wk := by
    unfold run0.sl.v73
    exact read_landed (S := S768x768) _ _ _ _ (View.read_rep _ _)
  have ev : run0.sl.v84 I = I.Wv := by
    unfold run0.sl.v84
    exact read_landed (S := S768x768) _ _ _ _ (View.read_rep _ _)
  isplitl [H1 H2 H3 H4 H5 H9 H10 H11 H12 H13 HR]
  · iframe
  isplitr [HW]
  swap
  · iexists _; iexact HW
  isplitl [HQ HK HV S3 S4 S5 C0 C1 C2]
  · ihave S3' := (anyAt_of c (Memref.whole cc0_scratch3) _) $$ S3
    ihave S4' := (anyAt_of c (Memref.whole cc0_scratch4) _) $$ S4
    ihave S5' := (anyAt_of c (Memref.whole cc0_scratch5) _) $$ S5
    iframe
  isplitl [S0 S1 S2]
  · isplitl [S0]
    · iapply (stored c (Memref.whole cc0_scratch0 : Memref sig .tc .vmem S1024x768 .f32) _ _ _ _ ?_) $$ S0
      rw [eh, eq, View.readAt_rep_full]; rfl
    isplitl [S1]
    · iapply (stored c (Memref.whole cc0_scratch1 : Memref sig .tc .vmem S1024x768 .f32) _ _ _ _ ?_) $$ S1
      rw [eh, ek, View.readAt_rep_full]; rfl
    iapply (stored c (Memref.whole cc0_scratch2 : Memref sig .tc .vmem S1024x768 .f32) _ _ _ _ ?_) $$ S2
    rw [eh, ev, View.readAt_rep_full]; rfl
  isplitl [C3]
  · iapply (flying_of c _ 73728 (Memref.whole cc0_scratch6) (Memref.whole main_arg8) I.Wo _ _ ?_) $$ C3
    exact View.read_rep _ _
  iexact HR2

end Cert.KernelIdeal.Hand

end
-- ==== Proof.KI.Rows.lean ====
/-
  The row-blocked scratches: what one more block's store leaves.
-/
module

public import proofs.«01_k».proof.Proof.KI.State

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- Row block `b`'s index of a place inside it. -/
theorem blkOf_eq (b : Fin 4) (y : S1024x768.Idx) (h0 : 256 * b.val ≤ (y 0).val) (h1 : (y 0).val < 256 * b.val + 256) : blkOf y = b :=
  Fin.ext (by show (y 0).val / 256 = b.val; omega)

/-- A store of row block `b`, the first `b` blocks being written, leaves the first `b + 1` written. -/
theorem stored_rows (c : Dev nD) {sp : Space} (M : Memref sig .tc sp S1024x768 .f32) (b : Fin 4) (B : Fin 4 → FVec F S256x768 .f32)
    (v : Vec F S1024x768 .f32) (hv : Agree b.val (fun y => B (blkOf y) (inBlk y)) v) {off : Fin S1024x768.rank → ℕ}
    (inb : ∀ a, off a + S256x768.size a ≤ S1024x768.size a) (hoff : off = ![256 * b.val, 0])
    (w : S256x768.Idx → Elt F .f32) (hw : w = B b) :
    (M.view.loc (c : Thread nD τ) ↦[M.view.set]{fullShare} M.view.writes (Elt F) (M.view.rep v) [⟨Rect.unit off S256x768.size inb, w⟩] : sProp 𝕄)
      ⊢ iprop(∃ v', ⌜Agree (b.val + 1) (fun y => B (blkOf y) (inBlk y)) v'⌝ ∗ hold c M v') := by
  have key : Agree (b.val + 1) (fun y => B (blkOf y) (inBlk y)) (VecWindow.put v (![256 * b.val, 0] : Fin 2 → ℕ) S256x768.size w) := by
    intro y hy
    show VecWindow.put v (![256 * b.val, 0] : Fin 2 → ℕ) S256x768.size w y = B (blkOf y) (inBlk y)
    have hy1 : (y 1).val < 768 := (y 1).isLt
    by_cases hlo : 256 * b.val ≤ (y 0).val
    · have hb := blkOf_eq b y hlo (by omega)
      rw [hb, ← hw]
      have hin : ∀ a, (![256 * b.val, 0] : Fin 2 → ℕ) a ≤ (y a).val ∧ (y a).val < (![256 * b.val, 0] : Fin 2 → ℕ) a + S256x768.size a := by
        intro a; fin_cases a
        · exact ⟨hlo, by show (y 0).val < 256 * b.val + 256; omega⟩
        · exact ⟨Nat.zero_le _, by show (y 1).val < 0 + 768; omega⟩
      unfold VecWindow.put
      rw [dif_pos hin]
      refine congrArg w (funext fun a => Fin.ext ?_)
      fin_cases a
      · show (y 0).val - 256 * b.val = (y 0).val % 256
        omega
      · show (y 1).val - 0 = (y 1).val
        omega
    · unfold VecWindow.put
      rw [dif_neg (fun h => hlo (h 0).1)]
      exact hv y (by omega)
  iintro H
  iexists _
  isplitr
  swap
  · iapply (pointsTo_rep_of_read (c : Thread nD τ) M _ fullShare _ (View.read_writes_rep_unit M.view v inb w hoff)); iexact H
  · ipureintro; exact key

/-- With all four blocks written, nothing else is left. -/
theorem agree_full (w v : Vec F S1024x768 .f32) (h : Agree 4 w v) : v = w := by
  funext y
  exact h y (by have : (y 0).val < 1024 := (y 0).isLt; omega)

end Cert.KernelIdeal.Hand

end
-- ==== Proof.KI.Split.lean ====
/-
  The two weights that arrive in four chunks, cut into those chunks and put together again: the arrays in the
  main memory at their value, the scratches they are copied to at whatever they hold.
-/
module

public import proofs.«01_k».proof.Proof.KI.State

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-- Column chunk `b` of a 768×3072 array, row chunk `b` of a 3072×768 one. -/
abbrev colOff (b : Fin 4) : Fin S768x3072.rank → ℕ := ![0, 768 * b.val]
abbrev rowOff (b : Fin 4) : Fin S3072x768.rank → ℕ := ![768 * b.val, 0]
theorem colOff_inb (b : Fin 4) : ∀ a, colOff b a + S768x768.size a ≤ S768x3072.size a := by
  have := b.isLt
  intro a; fin_cases a
  · show 0 + 768 ≤ 768; omega
  · show 768 * b.val + 768 ≤ 3072; omega
theorem rowOff_inb (b : Fin 4) : ∀ a, rowOff b a + S768x768.size a ≤ S3072x768.size a := by
  have := b.isLt
  intro a; fin_cases a
  · show 768 * b.val + 768 ≤ 3072; omega
  · show 0 + 768 ≤ 768; omega
abbrev colSet (b : Fin 4) : Finset S768x3072.Idx := (Rect.unit (s := S768x3072) (colOff b) S768x768.size (colOff_inb b)).set
abbrev rowSet (b : Fin 4) : Finset S3072x768.Idx := (Rect.unit (s := S3072x768) (rowOff b) S768x768.size (rowOff_inb b)).set

theorem colSet_disjoint (b b' : Fin 4) (h : b ≠ b') : Disjoint (colSet b) (colSet b') :=
  Ring.lead_disjoint (s := S768x3072) (NB := 4) 1 768 colOff S768x768.size colOff_inb (fun _ => rfl) rfl b b' h
theorem colSet_cover : (Finset.univ : Finset (Fin 4)).biUnion colSet = Finset.univ :=
  Ring.lead_cover (s := S768x3072) (NB := 4) 1 768 colOff S768x768.size colOff_inb (fun _ => rfl)
    (fun b a h => by fin_cases a; exacts [rfl, absurd rfl h]) rfl (fun a h => by fin_cases a; exacts [rfl, absurd rfl h]) rfl
theorem rowSet_disjoint (b b' : Fin 4) (h : b ≠ b') : Disjoint (rowSet b) (rowSet b') :=
  Ring.lead_disjoint (s := S3072x768) (NB := 4) 0 768 rowOff S768x768.size rowOff_inb (fun _ => rfl) rfl b b' h
theorem rowSet_cover : (Finset.univ : Finset (Fin 4)).biUnion rowSet = Finset.univ :=
  Ring.lead_cover (s := S3072x768) (NB := 4) 0 768 rowOff S768x768.size rowOff_inb (fun _ => rfl)
    (fun b a h => by fin_cases a; exacts [absurd rfl h, rfl]) rfl (fun a h => by fin_cases a; exacts [absurd rfl h, rfl]) rfl

/-- A conjunction over four blocks, spelled out. -/
theorem sep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Part of a buffer held by a slice's elements is the slice held at what it reads. -/
theorem piece_eq (c : Dev nD) {sp : Space} {S : Shape} {e : EltTy} (M : Memref sig .tc sp S e) (J : Finset (Idx (M.view.loc (c : Thread nD τ))))
    (hJ : M.view.set = J) (f : Buf (Elt F) (M.view.loc (c : Thread nD τ))) (X : S.Idx → Elt F e) (h : M.view.read (Elt F) f = X) :
    (M.view.loc (c : Thread nD τ) ↦[J]{fullShare} f : sProp 𝕄) = hold c M X := by
  subst hJ; subst h
  exact pointsTo_rep (c : Thread nD τ) M f fullShare
theorem piece_any (c : Dev nD) {sp : Space} {S : Shape} {e : EltTy} (M : Memref sig .tc sp S e) (J : Finset (Idx (M.view.loc (c : Thread nD τ))))
    (hJ : M.view.set = J) :
    (iprop(∃ f, M.view.loc (c : Thread nD τ) ↦[J]{fullShare} f) : sProp 𝕄) = anyAt F c M := by
  subst hJ; rfl

/-- A whole buffer held at anything, in four blocks and back. -/
theorem any_whole (c : Dev nD) (b : Ref sig .tc) : (anyAt F c (Memref.whole b) : sProp 𝕄) ⊢ iprop(∃ f, (c : Thread nD τ).loc b ↦{fullShare} f) := by
  unfold anyAt
  have h : (Memref.whole b).view.set = Finset.univ := View.set_whole b
  rw [h]
theorem whole_any (c : Dev nD) (b : Ref sig .tc) : (iprop(∃ f, (c : Thread nD τ).loc b ↦{fullShare} f) : sProp 𝕄) ⊢ anyAt F c (Memref.whole b) := by
  unfold anyAt
  have h : (Memref.whole b).view.set = Finset.univ := View.set_whole b
  rw [h]
theorem four_split (ℓ : Loc nD τ sig) (J : Fin 4 → Finset (Idx ℓ)) (hd : ∀ b b', b ≠ b' → Disjoint (J b) (J b')) (hc : Finset.univ.biUnion J = Finset.univ) :
    (iprop(∃ f, ℓ ↦{fullShare} f) : sProp 𝕄)
      ⊢ iprop((∃ f, ℓ ↦[J 0]{fullShare} f) ∗ (∃ f, ℓ ↦[J 1]{fullShare} f) ∗ (∃ f, ℓ ↦[J 2]{fullShare} f) ∗ (∃ f, ℓ ↦[J 3]{fullShare} f)) := by
  iintro ⟨%f, H⟩
  ihave H2 := (Entails.of_eq ((Ring.pointsTo_blocks (Ix := Unit) (Name := ℕ) (U := Pipeline.UD sig nD τ) (Lvl := ℕ) (q := fullShare) J hd hc f).trans (sep_four _))) $$ H
  icases H2 with ⟨H0, H1, H2, H3⟩
  isplitl [H0]
  · iexists f; iexact H0
  isplitl [H1]
  · iexists f; iexact H1
  isplitl [H2]
  · iexists f; iexact H2
  iexists f; iexact H3
theorem four_join (ℓ : Loc nD τ sig) (J : Fin 4 → Finset (Idx ℓ)) (hd : ∀ b b', b ≠ b' → Disjoint (J b) (J b')) (hc : Finset.univ.biUnion J = Finset.univ) :
    (iprop((∃ f, ℓ ↦[J 0]{fullShare} f) ∗ (∃ f, ℓ ↦[J 1]{fullShare} f) ∗ (∃ f, ℓ ↦[J 2]{fullShare} f) ∗ (∃ f, ℓ ↦[J 3]{fullShare} f)) : sProp 𝕄)
      ⊢ iprop(∃ f : Buf (Elt F) ℓ, ℓ ↦{fullShare} f) := by
  iintro ⟨⟨%f0, H0⟩, H1, H2, H3⟩
  iapply (Ring.pointsTo_blocks_join_exists J hd hc f0)
  irw [sep_four]
  isplitl [H0]
  · iexists f0; iexact H0
  isplitl [H1]
  · iexact H1
  isplitl [H2]
  · iexact H2
  iexact H3

/-- `W1` in the main memory is its four column chunks, -/
theorem w1_split (c : Dev nD) (I : In F) : (hold c (Memref.whole main_arg14 : Memref sig .tc .hbm S768x3072 .f32) I.W1 : sProp 𝕄)
    = iprop(hold c w1H0 (w1C0 I) ∗ hold c w1H1 (w1C1 I) ∗ hold c w1H2 (w1C2 I) ∗ hold c w1H3 (w1C3 I)) := by
  rw [← piece_eq c w1H0 (colSet 0) (View.set_slice_whole _ _) ((Memref.whole main_arg14 : Memref sig .tc .hbm S768x3072 .f32).view.rep I.W1) (w1C0 I) (View.readAt_rep_unit (Memref.whole main_arg14 : Memref sig .tc .hbm S768x3072 .f32).view I.W1 _ rfl _),
    ← piece_eq c w1H1 (colSet 1) (View.set_slice_whole _ _) ((Memref.whole main_arg14 : Memref sig .tc .hbm S768x3072 .f32).view.rep I.W1) (w1C1 I) (View.readAt_rep_unit (Memref.whole main_arg14 : Memref sig .tc .hbm S768x3072 .f32).view I.W1 _ rfl _),
    ← piece_eq c w1H2 (colSet 2) (View.set_slice_whole _ _) ((Memref.whole main_arg14 : Memref sig .tc .hbm S768x3072 .f32).view.rep I.W1) (w1C2 I) (View.readAt_rep_unit (Memref.whole main_arg14 : Memref sig .tc .hbm S768x3072 .f32).view I.W1 _ rfl _),
    ← piece_eq c w1H3 (colSet 3) (View.set_slice_whole _ _) ((Memref.whole main_arg14 : Memref sig .tc .hbm S768x3072 .f32).view.rep I.W1) (w1C3 I) (View.readAt_rep_unit (Memref.whole main_arg14 : Memref sig .tc .hbm S768x3072 .f32).view I.W1 _ rfl _)]
  unfold hold
  rw [View.set_whole]
  exact (Ring.pointsTo_blocks (ℓ := (c : Thread nD τ).loc main_arg14) colSet colSet_disjoint colSet_cover _).trans (sep_four _)

/-- `W2` its four row chunks. -/
theorem w2_split (c : Dev nD) (I : In F) : (hold c (Memref.whole main_arg16 : Memref sig .tc .hbm S3072x768 .f32) I.W2 : sProp 𝕄)
    = iprop(hold c w2H0 (w2C0 I) ∗ hold c w2H1 (w2C1 I) ∗ hold c w2H2 (w2C2 I) ∗ hold c w2H3 (w2C3 I)) := by
  rw [← piece_eq c w2H0 (rowSet 0) (View.set_slice_whole _ _) ((Memref.whole main_arg16 : Memref sig .tc .hbm S3072x768 .f32).view.rep I.W2) (w2C0 I) (View.readAt_rep_unit (Memref.whole main_arg16 : Memref sig .tc .hbm S3072x768 .f32).view I.W2 _ rfl _),
    ← piece_eq c w2H1 (rowSet 1) (View.set_slice_whole _ _) ((Memref.whole main_arg16 : Memref sig .tc .hbm S3072x768 .f32).view.rep I.W2) (w2C1 I) (View.readAt_rep_unit (Memref.whole main_arg16 : Memref sig .tc .hbm S3072x768 .f32).view I.W2 _ rfl _),
    ← piece_eq c w2H2 (rowSet 2) (View.set_slice_whole _ _) ((Memref.whole main_arg16 : Memref sig .tc .hbm S3072x768 .f32).view.rep I.W2) (w2C2 I) (View.readAt_rep_unit (Memref.whole main_arg16 : Memref sig .tc .hbm S3072x768 .f32).view I.W2 _ rfl _),
    ← piece_eq c w2H3 (rowSet 3) (View.set_slice_whole _ _) ((Memref.whole main_arg16 : Memref sig .tc .hbm S3072x768 .f32).view.rep I.W2) (w2C3 I) (View.readAt_rep_unit (Memref.whole main_arg16 : Memref sig .tc .hbm S3072x768 .f32).view I.W2 _ rfl _)]
  unfold hold
  rw [View.set_whole]
  exact (Ring.pointsTo_blocks (ℓ := (c : Thread nD τ).loc main_arg16) rowSet rowSet_disjoint rowSet_cover _).trans (sep_four _)

/-- A chunk of the scratch `W1` arrives in, as a part of the buffer. -/
theorem s1_piece0 (c : Dev nD) : (anyAt F c w1S0 : sProp 𝕄) = iprop(∃ f, (c : Thread nD τ).loc cc0_scratch7 ↦[colSet 0]{fullShare} f) :=
  (piece_any (F := F) c w1S0 (colSet 0) (View.set_slice_whole _ _)).symm
theorem s1_piece1 (c : Dev nD) : (anyAt F c w1S1 : sProp 𝕄) = iprop(∃ f, (c : Thread nD τ).loc cc0_scratch7 ↦[colSet 1]{fullShare} f) :=
  (piece_any (F := F) c w1S1 (colSet 1) (View.set_slice_whole _ _)).symm
theorem s1_piece2 (c : Dev nD) : (anyAt F c w1S2 : sProp 𝕄) = iprop(∃ f, (c : Thread nD τ).loc cc0_scratch7 ↦[colSet 2]{fullShare} f) :=
  (piece_any (F := F) c w1S2 (colSet 2) (View.set_slice_whole _ _)).symm
theorem s1_piece3 (c : Dev nD) : (anyAt F c w1S3 : sProp 𝕄) = iprop(∃ f, (c : Thread nD τ).loc cc0_scratch7 ↦[colSet 3]{fullShare} f) :=
  (piece_any (F := F) c w1S3 (colSet 3) (View.set_slice_whole _ _)).symm
/-- The scratch `W1` arrives in is its four chunks, at whatever they hold, -/
theorem s1_split (c : Dev nD) : (anyAt F c (Memref.whole cc0_scratch7 : Memref sig .tc .vmem S768x3072 .f32) : sProp 𝕄) ⊢ iprop(anyAt F c w1S0 ∗ anyAt F c w1S1 ∗ anyAt F c w1S2 ∗ anyAt F c w1S3) := by
  rw [s1_piece0, s1_piece1, s1_piece2, s1_piece3]
  exact (any_whole c cc0_scratch7).trans (four_split ((c : Thread nD τ).loc cc0_scratch7) colSet colSet_disjoint colSet_cover)
/-- and the four make it whole again. -/
theorem s1_join (c : Dev nD) : (iprop(anyAt F c w1S0 ∗ anyAt F c w1S1 ∗ anyAt F c w1S2 ∗ anyAt F c w1S3) : sProp 𝕄) ⊢ anyAt F c (Memref.whole cc0_scratch7 : Memref sig .tc .vmem S768x3072 .f32) := by
  rw [s1_piece0, s1_piece1, s1_piece2, s1_piece3]
  exact (four_join ((c : Thread nD τ).loc cc0_scratch7) colSet colSet_disjoint colSet_cover).trans (whole_any c cc0_scratch7)

/-- A chunk of the scratch `W2` arrives in, as a part of the buffer. -/
theorem s2_piece0 (c : Dev nD) : (anyAt F c w2S0 : sProp 𝕄) = iprop(∃ f, (c : Thread nD τ).loc cc0_scratch8 ↦[rowSet 0]{fullShare} f) :=
  (piece_any (F := F) c w2S0 (rowSet 0) (View.set_slice_whole _ _)).symm
theorem s2_piece1 (c : Dev nD) : (anyAt F c w2S1 : sProp 𝕄) = iprop(∃ f, (c : Thread nD τ).loc cc0_scratch8 ↦[rowSet 1]{fullShare} f) :=
  (piece_any (F := F) c w2S1 (rowSet 1) (View.set_slice_whole _ _)).symm
theorem s2_piece2 (c : Dev nD) : (anyAt F c w2S2 : sProp 𝕄) = iprop(∃ f, (c : Thread nD τ).loc cc0_scratch8 ↦[rowSet 2]{fullShare} f) :=
  (piece_any (F := F) c w2S2 (rowSet 2) (View.set_slice_whole _ _)).symm
theorem s2_piece3 (c : Dev nD) : (anyAt F c w2S3 : sProp 𝕄) = iprop(∃ f, (c : Thread nD τ).loc cc0_scratch8 ↦[rowSet 3]{fullShare} f) :=
  (piece_any (F := F) c w2S3 (rowSet 3) (View.set_slice_whole _ _)).symm
/-- The scratch `W2` arrives in is its four chunks, at whatever they hold, -/
theorem s2_split (c : Dev nD) : (anyAt F c (Memref.whole cc0_scratch8 : Memref sig .tc .vmem S3072x768 .f32) : sProp 𝕄) ⊢ iprop(anyAt F c w2S0 ∗ anyAt F c w2S1 ∗ anyAt F c w2S2 ∗ anyAt F c w2S3) := by
  rw [s2_piece0, s2_piece1, s2_piece2, s2_piece3]
  exact (any_whole c cc0_scratch8).trans (four_split ((c : Thread nD τ).loc cc0_scratch8) rowSet rowSet_disjoint rowSet_cover)
/-- and the four make it whole again. -/
theorem s2_join (c : Dev nD) : (iprop(anyAt F c w2S0 ∗ anyAt F c w2S1 ∗ anyAt F c w2S2 ∗ anyAt F c w2S3) : sProp 𝕄) ⊢ anyAt F c (Memref.whole cc0_scratch8 : Memref sig .tc .vmem S3072x768 .f32) := by
  rw [s2_piece0, s2_piece1, s2_piece2, s2_piece3]
  exact (four_join ((c : Thread nD τ).loc cc0_scratch8) rowSet rowSet_disjoint rowSet_cover).trans (whole_any c cc0_scratch8)

end Cert.KernelIdeal.Hand

end
-- ==== Proof.KI.Run1.lean ====
/-
  The second grid point: the copies of the two last weights are started, chunk by chunk; `Wo` is waited for; and the
  first row block of the attention is computed.
-/
module

public import proofs.«01_k».proof.Proof.KI.Rows
public import proofs.«01_k».proof.Proof.KI.Split

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (a1 : Memref sig .tc .vmem S1024x768 .f32) (h1 : a1.IsWhole) (a2 : Memref sig .tc .vmem S1024x1 .f32) (h2 : a2.IsWhole)
  (a3 : Memref sig .tc .vmem S1x1024 .f32) (h3 : a3.IsWhole) (a4 : Memref sig .tc .vmem S1024x1 .f32) (h4 : a4.IsWhole)
  (a5 : Memref sig .tc .vmem S1x1024 .f32) (h5 : a5.IsWhole)
  (a9 : Memref sig .tc .vmem S1x768 .f32) (h9 : a9.IsWhole) (a10 : Memref sig .tc .vmem S1x768 .f32) (h10 : a10.IsWhole)
  (a11 : Memref sig .tc .vmem S1x768 .f32) (h11 : a11.IsWhole) (a12 : Memref sig .tc .vmem S1x768 .f32) (h12 : a12.IsWhole)
  (a13 : Memref sig .tc .vmem S1x768 .f32) (h13 : a13.IsWhole) (a15 : Memref sig .tc .vmem S1x768 .f32) (h15 : a15.IsWhole)
  (a16 : Memref sig .tc .vmem S1x768 .f32) (h16 : a16.IsWhole) (a17 : Memref sig .tc .vmem S1x768 .f32) (h17 : a17.IsWhole)
  (a19 : Memref sig .tc .vmem S1x3072 .f32) (h19 : a19.IsWhole) (a21 : Memref sig .tc .vmem S1x768 .f32) (h21 : a21.IsWhole)
  (a22 : Memref sig .tc .vmem S1024x768 .f32) (h22 : a22.IsWhole)

theorem run1 (c : Dev nD) (I : In F) (W : Waits sig Unit) (K : PUnit → sProp 𝕄) :
    iprop(wins a1 a2 a3 a4 a5 a9 a10 a11 a12 a13 a15 a16 a17 a19 a21 c I ∗ st1 c I ∗ owes (c : Thread nD τ) 0 W
        ∗ (iprop(wins a1 a2 a3 a4 a5 a9 a10 a11 a12 a13 a15 a16 a17 a19 a21 c I ∗ stB c I 1 ∗ (∃ W', owes (c : Thread nD τ) 0 W')) -∗ K ⟨⟩))
      ⊢ wp frame (wpE (defs₀ (F := F)) Variants.none c none) Set.univ
          (prog a1 h1 a2 h2 a3 h3 a4 h4 a5 h5 a9 h9 a10 h10 a11 h11 a12 h12 a13 h13 a15 h15 a16 h16 a17 h17 a19 h19 a21 h21 a22 h22 (grid0.coords t0_1)) K := by
  simp only [prog, cc0__body_eq_skeleton]; unfold cc0__body_skel wins st1 stB qkvSt woFly woSt restSt partSt fly0 fly1 fly2 fly3
  iintro ⟨⟨H1, H2, H3, H4, H5, H9, H10, H11, H12, H13, H15, H16, H17, H19, H21⟩, ⟨HID, ⟨SQ, SK, SV⟩, FO, ⟨HW1, HW2, S7, S8, C0, C1, C2, C3, C4, C5, C6, C7⟩, ⟨%f9, S9⟩, ⟨%f10, S10⟩, HR⟩, HW, Hk⟩
  ihave HW1' := (Entails.of_eq (w1_split c I)) $$ HW1
  ihave HW2' := (Entails.of_eq (w2_split c I)) $$ HW2
  icases HW1' with ⟨A0, A1, A2, A3⟩
  icases HW2' with ⟨B0, B1, B2, B3⟩
  ihave S7' := (s1_split c) $$ S7
  ihave S8' := (s2_split c) $$ S8
  icases S7' with ⟨⟨%g0, X0⟩, ⟨%g1, X1⟩, ⟨%g2, X2⟩, ⟨%g3, X3⟩⟩
  icases S8' with ⟨⟨%e0, Y0⟩, ⟨%e1, Y1⟩, ⟨%e2, Y2⟩, ⟨%e3, Y3⟩⟩
  ihave S9' := (pointsTo_rep_entails (c : Thread nD τ) (Memref.whole cc0_scratch9 : Memref sig .tc .vmem S1024x768 .f32) f9 fullShare) $$ S9
  ihave S10' := (pointsTo_rep_entails (c : Thread nD τ) (Memref.whole cc0_scratch10 : Memref sig .tc .vmem S1024x768 .f32) f10 fullShare) $$ S10
  sl_exec
  sl_step
  iapply Hk
  have o1 : k0_off1 (grid0.coords t0_1) = ![256 * (0 : Fin 4).val, 0] := by decide +kernel
  have o2 : k0_off2 (grid0.coords t0_1) = ![256 * (0 : Fin 4).val, 0] := by decide +kernel
  have q0 : run1.sl.v26 I = rowsOf 0 (qV I) := View.readAt_rep_unit (s := S1024x768) _ _ _ o1 _
  have q1 : run1.sl.v32 a2 I = colOf 0 I.xi := View.readAt_rep_unit _ _ _ o2 _
  have q2 : run1.sl.v36 a4 I = colOf 0 I.yi := View.readAt_rep_unit _ _ _ o2 _
  have q3 : run1.sl.v84 I = rowsOf 0 (vV I) := View.readAt_rep_unit (s := S1024x768) _ _ _ o1 _
  have q4 : run1.sl.v93 a1 I = rowsOf 0 I.x := View.readAt_rep_unit _ _ _ o1 _
  have q5 : run1.sl.r I = vV I := View.readAt_rep_full (s := S1024x768) _ _ _
  have q6 : run1.sl.r_1 a2 a3 a4 a5 I = k0_pay9 (gw 0) (colOf 0 I.xi) (colOf 0 I.yi) I.xr I.yr := by
    unfold run1.sl.r_1
    rw [q1, q2, View.readAt_rep_full, View.readAt_rep_full]; rfl
  have q7 : run1.sl.r_2 a2 a3 a4 a5 I = k0_pay10 (gw 0) (rowsOf 0 (qV I)) (kV I) (colOf 0 I.xi) (colOf 0 I.yi) I.xr I.yr := by
    unfold run1.sl.r_2
    rw [q0, q1, q2, View.readAt_rep_full, View.readAt_rep_full,
      show View.readAt (Elt F) (Memref.whole cc0_scratch1).view (Rect.unit ![0, 0] S1024x768.size inb_S1024x768_S1024x768_0_0).toLoadRect
        ((Memref.whole cc0_scratch1).view.rep (kV I)) = kV I from View.readAt_rep_full (s := S1024x768) _ _ _]; rfl
  have e : run1.sl.v100 a1 a2 a3 a4 a5 a15 I = blkV I 0 := by
    change k0_pay11 (run1.sl.r I) (run1.sl.r_1 a2 a3 a4 a5 I) (run1.sl.r_2 a2 a3 a4 a5 I) (run1.sl.v84 I) (run1.sl.v93 a1 I) (View.readAt (Elt F) (Memref.whole cc0_scratch6).view (Rect.unit (s := S768x768) ![0, 0] S768x768.size inb_S768x768_S768x768_0_0).toLoadRect ((Memref.whole cc0_scratch6).view.rep I.Wo)) (View.readAt (Elt F) a15.view (Rect.unit (s := S1x768) ![0, 0] S1x768.size inb_S1x768_S1x768_0_0).toLoadRect (a15.view.rep I.bo)) = _
    rw [q3, q4, q5, q6, q7, View.readAt_rep_full,
      show View.readAt (Elt F) (Memref.whole cc0_scratch6).view (Rect.unit ![0, 0] S768x768.size inb_S768x768_S768x768_0_0).toLoadRect
        ((Memref.whole cc0_scratch6).view.rep I.Wo) = I.Wo from View.readAt_rep_full (s := S768x768) _ _ _]; rfl
  isplitl [H1 H2 H3 H4 H5 H9 H10 H11 H12 H13 H15 H16 H17 H19 H21]
  · iframe
  isplitr [HW]
  swap
  · iexists _; iexact HW
  isplitl [HID]
  · iexact HID
  isplitl [SQ SK SV]
  · iframe
  isplitl [FO_dst FO_src FO]
  · isplitl [FO_dst]
    · iexact FO_dst
    isplitl [FO_src]
    · iexact FO_src
    iexact FO
  isplitl [C0 C1 C2 C3 C4 C5 C6 C7]
  · isplitl [C0 C1]
    · isplitl [C0]
      · iapply (flying_of c _ 73728 w1S0 w1H0 (w1C0 I) _ _ ?_) $$ C0
        exact View.read_rep _ _
      iapply (flying_of c _ 73728 w2S0 w2H0 (w2C0 I) _ _ ?_) $$ C1
      exact View.read_rep _ _
    isplitl [C2 C3]
    · isplitl [C2]
      · iapply (flying_of c _ 73728 w1S1 w1H1 (w1C1 I) _ _ ?_) $$ C2
        exact View.read_rep _ _
      iapply (flying_of c _ 73728 w2S1 w2H1 (w2C1 I) _ _ ?_) $$ C3
      exact View.read_rep _ _
    isplitl [C4 C5]
    · isplitl [C4]
      · iapply (flying_of c _ 73728 w1S2 w1H2 (w1C2 I) _ _ ?_) $$ C4
        exact View.read_rep _ _
      iapply (flying_of c _ 73728 w2S2 w2H2 (w2C2 I) _ _ ?_) $$ C5
      exact View.read_rep _ _
    isplitl [C6]
    · iapply (flying_of c _ 73728 w1S3 w1H3 (w1C3 I) _ _ ?_) $$ C6
      exact View.read_rep _ _
    iapply (flying_of c _ 73728 w2S3 w2H3 (w2C3 I) _ _ ?_) $$ C7
    exact View.read_rep _ _
  isplitr [HR]
  swap
  · iexact HR
  isplitl [S9']
  · iapply (stored_rows c (Memref.whole cc0_scratch9 : Memref sig .tc .vmem S1024x768 .f32) 0 (xnB I) _ (fun y h => absurd h (Nat.not_lt_zero _)) _ o1 _ ?_) $$ S9'
    rw [e]; rfl
  iapply (stored_rows c (Memref.whole cc0_scratch10 : Memref sig .tc .vmem S1024x768 .f32) 0 (h2B I) _ (fun y h => absurd h (Nat.not_lt_zero _)) _ o1 _ ?_) $$ S10'
  rw [e, View.readAt_rep_full, View.readAt_rep_full]; rfl

end Cert.KernelIdeal.Hand

end
-- ==== Proof.KI.RunB.lean ====
/-
  The third, fourth and fifth grid points: one row block each of the attention, its residual addition and the
  second layer norm, the chunks of the last two weights being on their way meanwhile.
-/
module

public import proofs.«01_k».proof.Proof.KI.Rows

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (a1 : Memref sig .tc .vmem S1024x768 .f32) (h1 : a1.IsWhole) (a2 : Memref sig .tc .vmem S1024x1 .f32) (h2 : a2.IsWhole)
  (a3 : Memref sig .tc .vmem S1x1024 .f32) (h3 : a3.IsWhole) (a4 : Memref sig .tc .vmem S1024x1 .f32) (h4 : a4.IsWhole)
  (a5 : Memref sig .tc .vmem S1x1024 .f32) (h5 : a5.IsWhole)
  (a9 : Memref sig .tc .vmem S1x768 .f32) (h9 : a9.IsWhole) (a10 : Memref sig .tc .vmem S1x768 .f32) (h10 : a10.IsWhole)
  (a11 : Memref sig .tc .vmem S1x768 .f32) (h11 : a11.IsWhole) (a12 : Memref sig .tc .vmem S1x768 .f32) (h12 : a12.IsWhole)
  (a13 : Memref sig .tc .vmem S1x768 .f32) (h13 : a13.IsWhole) (a15 : Memref sig .tc .vmem S1x768 .f32) (h15 : a15.IsWhole)
  (a16 : Memref sig .tc .vmem S1x768 .f32) (h16 : a16.IsWhole) (a17 : Memref sig .tc .vmem S1x768 .f32) (h17 : a17.IsWhole)
  (a19 : Memref sig .tc .vmem S1x3072 .f32) (h19 : a19.IsWhole) (a21 : Memref sig .tc .vmem S1x768 .f32) (h21 : a21.IsWhole)
  (a22 : Memref sig .tc .vmem S1024x768 .f32) (h22 : a22.IsWhole)

theorem run2 (c : Dev nD) (I : In F) (W : Waits sig Unit) (K : PUnit → sProp 𝕄) :
    iprop(wins a1 a2 a3 a4 a5 a9 a10 a11 a12 a13 a15 a16 a17 a19 a21 c I ∗ stB c I 1 ∗ owes (c : Thread nD τ) 0 W
        ∗ (iprop(wins a1 a2 a3 a4 a5 a9 a10 a11 a12 a13 a15 a16 a17 a19 a21 c I ∗ stB c I 2 ∗ (∃ W', owes (c : Thread nD τ) 0 W')) -∗ K ⟨⟩))
      ⊢ wp frame (wpE (defs₀ (F := F)) Variants.none c none) Set.univ
          (prog a1 h1 a2 h2 a3 h3 a4 h4 a5 h5 a9 h9 a10 h10 a11 h11 a12 h12 a13 h13 a15 h15 a16 h16 a17 h17 a19 h19 a21 h21 a22 h22 (grid0.coords t0_2)) K := by
  simp only [prog, cc0__body_eq_skeleton]; unfold cc0__body_skel wins stB qkvSt woSt partSt
  iintro ⟨⟨H1, H2, H3, H4, H5, H9, H10, H11, H12, H13, H15, H16, H17, H19, H21⟩, ⟨HID, ⟨SQ, SK, SV⟩, ⟨SO, HO, CO⟩, HF, ⟨⟨%v9, %hv9, S9⟩, ⟨%v10, %hv10, S10⟩⟩, HR⟩, HW, Hk⟩
  sl_exec
  sl_step
  iapply Hk
  have o1 : k0_off1 (grid0.coords t0_2) = ![256 * (1 : Fin 4).val, 0] := by decide +kernel
  have o2 : k0_off2 (grid0.coords t0_2) = ![256 * (1 : Fin 4).val, 0] := by decide +kernel
  have q0 : run2.sl.v26 I = rowsOf 1 (qV I) := View.readAt_rep_unit (s := S1024x768) _ _ _ o1 _
  have q1 : run2.sl.v32 a2 I = colOf 1 I.xi := View.readAt_rep_unit _ _ _ o2 _
  have q2 : run2.sl.v36 a4 I = colOf 1 I.yi := View.readAt_rep_unit _ _ _ o2 _
  have q3 : run2.sl.v84 I = rowsOf 1 (vV I) := View.readAt_rep_unit (s := S1024x768) _ _ _ o1 _
  have q4 : run2.sl.v93 a1 I = rowsOf 1 I.x := View.readAt_rep_unit _ _ _ o1 _
  have q5 : run2.sl.r I = vV I := View.readAt_rep_full (s := S1024x768) _ _ _
  have q6 : run2.sl.r_1 a2 a3 a4 a5 I = k0_pay9 (gw 1) (colOf 1 I.xi) (colOf 1 I.yi) I.xr I.yr := by
    unfold run2.sl.r_1
    rw [q1, q2, View.readAt_rep_full, View.readAt_rep_full]; rfl
  have q7 : run2.sl.r_2 a2 a3 a4 a5 I = k0_pay10 (gw 1) (rowsOf 1 (qV I)) (kV I) (colOf 1 I.xi) (colOf 1 I.yi) I.xr I.yr := by
    unfold run2.sl.r_2
    rw [q0, q1, q2, View.readAt_rep_full, View.readAt_rep_full,
      show View.readAt (Elt F) (Memref.whole cc0_scratch1).view (Rect.unit ![0, 0] S1024x768.size inb_S1024x768_S1024x768_0_0).toLoadRect
        ((Memref.whole cc0_scratch1).view.rep (kV I)) = kV I from View.readAt_rep_full (s := S1024x768) _ _ _]; rfl
  have e : run2.sl.v100 a1 a2 a3 a4 a5 a15 I = blkV I 1 := by
    change k0_pay11 (run2.sl.r I) (run2.sl.r_1 a2 a3 a4 a5 I) (run2.sl.r_2 a2 a3 a4 a5 I) (run2.sl.v84 I) (run2.sl.v93 a1 I) (View.readAt (Elt F) (Memref.whole cc0_scratch6).view (Rect.unit (s := S768x768) ![0, 0] S768x768.size inb_S768x768_S768x768_0_0).toLoadRect ((Memref.whole cc0_scratch6).view.rep I.Wo)) (View.readAt (Elt F) a15.view (Rect.unit (s := S1x768) ![0, 0] S1x768.size inb_S1x768_S1x768_0_0).toLoadRect (a15.view.rep I.bo)) = _
    rw [q3, q4, q5, q6, q7, View.readAt_rep_full,
      show View.readAt (Elt F) (Memref.whole cc0_scratch6).view (Rect.unit ![0, 0] S768x768.size inb_S768x768_S768x768_0_0).toLoadRect
        ((Memref.whole cc0_scratch6).view.rep I.Wo) = I.Wo from View.readAt_rep_full (s := S768x768) _ _ _]; rfl
  isplitl [H1 H2 H3 H4 H5 H9 H10 H11 H12 H13 H15 H16 H17 H19 H21]
  · iframe
  isplitr [HW]
  swap
  · iexists _; iexact HW
  isplitl [HID]
  · iexact HID
  isplitl [SQ SK SV]
  · iframe
  isplitl [SO HO CO]
  · iframe
  isplitl [HF]
  · iexact HF
  isplitr [HR]
  swap
  · iexact HR
  isplitl [S9]
  · iapply (stored_rows c (Memref.whole cc0_scratch9 : Memref sig .tc .vmem S1024x768 .f32) 1 (xnB I) v9 hv9 _ o1 _ ?_) $$ S9
    rw [e]; rfl
  iapply (stored_rows c (Memref.whole cc0_scratch10 : Memref sig .tc .vmem S1024x768 .f32) 1 (h2B I) v10 hv10 _ o1 _ ?_) $$ S10
  rw [e, View.readAt_rep_full, View.readAt_rep_full]; rfl

theorem run3 (c : Dev nD) (I : In F) (W : Waits sig Unit) (K : PUnit → sProp 𝕄) :
    iprop(wins a1 a2 a3 a4 a5 a9 a10 a11 a12 a13 a15 a16 a17 a19 a21 c I ∗ stB c I 2 ∗ owes (c : Thread nD τ) 0 W
        ∗ (iprop(wins a1 a2 a3 a4 a5 a9 a10 a11 a12 a13 a15 a16 a17 a19 a21 c I ∗ stB c I 3 ∗ (∃ W', owes (c : Thread nD τ) 0 W')) -∗ K ⟨⟩))
      ⊢ wp frame (wpE (defs₀ (F := F)) Variants.none c none) Set.univ
          (prog a1 h1 a2 h2 a3 h3 a4 h4 a5 h5 a9 h9 a10 h10 a11 h11 a12 h12 a13 h13 a15 h15 a16 h16 a17 h17 a19 h19 a21 h21 a22 h22 (grid0.coords t0_3)) K := by
  simp only [prog, cc0__body_eq_skeleton]; unfold cc0__body_skel wins stB qkvSt woSt partSt
  iintro ⟨⟨H1, H2, H3, H4, H5, H9, H10, H11, H12, H13, H15, H16, H17, H19, H21⟩, ⟨HID, ⟨SQ, SK, SV⟩, ⟨SO, HO, CO⟩, HF, ⟨⟨%v9, %hv9, S9⟩, ⟨%v10, %hv10, S10⟩⟩, HR⟩, HW, Hk⟩
  sl_exec
  sl_step
  iapply Hk
  have o1 : k0_off1 (grid0.coords t0_3) = ![256 * (2 : Fin 4).val, 0] := by decide +kernel
  have o2 : k0_off2 (grid0.coords t0_3) = ![256 * (2 : Fin 4).val, 0] := by decide +kernel
  have q0 : run3.sl.v26 I = rowsOf 2 (qV I) := View.readAt_rep_unit (s := S1024x768) _ _ _ o1 _
  have q1 : run3.sl.v32 a2 I = colOf 2 I.xi := View.readAt_rep_unit _ _ _ o2 _
  have q2 : run3.sl.v36 a4 I = colOf 2 I.yi := View.readAt_rep_unit _ _ _ o2 _
  have q3 : run3.sl.v84 I = rowsOf 2 (vV I) := View.readAt_rep_unit (s := S1024x768) _ _ _ o1 _
  have q4 : run3.sl.v93 a1 I = rowsOf 2 I.x := View.readAt_rep_unit _ _ _ o1 _
  have q5 : run3.sl.r I = vV I := View.readAt_rep_full (s := S1024x768) _ _ _
  have q6 : run3.sl.r_1 a2 a3 a4 a5 I = k0_pay9 (gw 2) (colOf 2 I.xi) (colOf 2 I.yi) I.xr I.yr := by
    unfold run3.sl.r_1
    rw [q1, q2, View.readAt_rep_full, View.readAt_rep_full]; rfl
  have q7 : run3.sl.r_2 a2 a3 a4 a5 I = k0_pay10 (gw 2) (rowsOf 2 (qV I)) (kV I) (colOf 2 I.xi) (colOf 2 I.yi) I.xr I.yr := by
    unfold run3.sl.r_2
    rw [q0, q1, q2, View.readAt_rep_full, View.readAt_rep_full,
      show View.readAt (Elt F) (Memref.whole cc0_scratch1).view (Rect.unit ![0, 0] S1024x768.size inb_S1024x768_S1024x768_0_0).toLoadRect
        ((Memref.whole cc0_scratch1).view.rep (kV I)) = kV I from View.readAt_rep_full (s := S1024x768) _ _ _]; rfl
  have e : run3.sl.v100 a1 a2 a3 a4 a5 a15 I = blkV I 2 := by
    change k0_pay11 (run3.sl.r I) (run3.sl.r_1 a2 a3 a4 a5 I) (run3.sl.r_2 a2 a3 a4 a5 I) (run3.sl.v84 I) (run3.sl.v93 a1 I) (View.readAt (Elt F) (Memref.whole cc0_scratch6).view (Rect.unit (s := S768x768) ![0, 0] S768x768.size inb_S768x768_S768x768_0_0).toLoadRect ((Memref.whole cc0_scratch6).view.rep I.Wo)) (View.readAt (Elt F) a15.view (Rect.unit (s := S1x768) ![0, 0] S1x768.size inb_S1x768_S1x768_0_0).toLoadRect (a15.view.rep I.bo)) = _
    rw [q3, q4, q5, q6, q7, View.readAt_rep_full,
      show View.readAt (Elt F) (Memref.whole cc0_scratch6).view (Rect.unit ![0, 0] S768x768.size inb_S768x768_S768x768_0_0).toLoadRect
        ((Memref.whole cc0_scratch6).view.rep I.Wo) = I.Wo from View.readAt_rep_full (s := S768x768) _ _ _]; rfl
  isplitl [H1 H2 H3 H4 H5 H9 H10 H11 H12 H13 H15 H16 H17 H19 H21]
  · iframe
  isplitr [HW]
  swap
  · iexists _; iexact HW
  isplitl [HID]
  · iexact HID
  isplitl [SQ SK SV]
  · iframe
  isplitl [SO HO CO]
  · iframe
  isplitl [HF]
  · iexact HF
  isplitr [HR]
  swap
  · iexact HR
  isplitl [S9]
  · iapply (stored_rows c (Memref.whole cc0_scratch9 : Memref sig .tc .vmem S1024x768 .f32) 2 (xnB I) v9 hv9 _ o1 _ ?_) $$ S9
    rw [e]; rfl
  iapply (stored_rows c (Memref.whole cc0_scratch10 : Memref sig .tc .vmem S1024x768 .f32) 2 (h2B I) v10 hv10 _ o1 _ ?_) $$ S10
  rw [e, View.readAt_rep_full, View.readAt_rep_full]; rfl

theorem run4 (c : Dev nD) (I : In F) (W : Waits sig Unit) (K : PUnit → sProp 𝕄) :
    iprop(wins a1 a2 a3 a4 a5 a9 a10 a11 a12 a13 a15 a16 a17 a19 a21 c I ∗ stB c I 3 ∗ owes (c : Thread nD τ) 0 W
        ∗ (iprop(wins a1 a2 a3 a4 a5 a9 a10 a11 a12 a13 a15 a16 a17 a19 a21 c I ∗ stB c I 4 ∗ (∃ W', owes (c : Thread nD τ) 0 W')) -∗ K ⟨⟩))
      ⊢ wp frame (wpE (defs₀ (F := F)) Variants.none c none) Set.univ
          (prog a1 h1 a2 h2 a3 h3 a4 h4 a5 h5 a9 h9 a10 h10 a11 h11 a12 h12 a13 h13 a15 h15 a16 h16 a17 h17 a19 h19 a21 h21 a22 h22 (grid0.coords t0_4)) K := by
  simp only [prog, cc0__body_eq_skeleton]; unfold cc0__body_skel wins stB qkvSt woSt partSt
  iintro ⟨⟨H1, H2, H3, H4, H5, H9, H10, H11, H12, H13, H15, H16, H17, H19, H21⟩, ⟨HID, ⟨SQ, SK, SV⟩, ⟨SO, HO, CO⟩, HF, ⟨⟨%v9, %hv9, S9⟩, ⟨%v10, %hv10, S10⟩⟩, HR⟩, HW, Hk⟩
  sl_exec
  sl_step
  iapply Hk
  have o1 : k0_off1 (grid0.coords t0_4) = ![256 * (3 : Fin 4).val, 0] := by decide +kernel
  have o2 : k0_off2 (grid0.coords t0_4) = ![256 * (3 : Fin 4).val, 0] := by decide +kernel
  have q0 : run4.sl.v26 I = rowsOf 3 (qV I) := View.readAt_rep_unit (s := S1024x768) _ _ _ o1 _
  have q1 : run4.sl.v32 a2 I = colOf 3 I.xi := View.readAt_rep_unit _ _ _ o2 _
  have q2 : run4.sl.v36 a4 I = colOf 3 I.yi := View.readAt_rep_unit _ _ _ o2 _
  have q3 : run4.sl.v84 I = rowsOf 3 (vV I) := View.readAt_rep_unit (s := S1024x768) _ _ _ o1 _
  have q4 : run4.sl.v93 a1 I = rowsOf 3 I.x := View.readAt_rep_unit _ _ _ o1 _
  have q5 : run4.sl.r I = vV I := View.readAt_rep_full (s := S1024x768) _ _ _
  have q6 : run4.sl.r_1 a2 a3 a4 a5 I = k0_pay9 (gw 3) (colOf 3 I.xi) (colOf 3 I.yi) I.xr I.yr := by
    unfold run4.sl.r_1
    rw [q1, q2, View.readAt_rep_full, View.readAt_rep_full]; rfl
  have q7 : run4.sl.r_2 a2 a3 a4 a5 I = k0_pay10 (gw 3) (rowsOf 3 (qV I)) (kV I) (colOf 3 I.xi) (colOf 3 I.yi) I.xr I.yr := by
    unfold run4.sl.r_2
    rw [q0, q1, q2, View.readAt_rep_full, View.readAt_rep_full,
      show View.readAt (Elt F) (Memref.whole cc0_scratch1).view (Rect.unit ![0, 0] S1024x768.size inb_S1024x768_S1024x768_0_0).toLoadRect
        ((Memref.whole cc0_scratch1).view.rep (kV I)) = kV I from View.readAt_rep_full (s := S1024x768) _ _ _]; rfl
  have e : run4.sl.v100 a1 a2 a3 a4 a5 a15 I = blkV I 3 := by
    change k0_pay11 (run4.sl.r I) (run4.sl.r_1 a2 a3 a4 a5 I) (run4.sl.r_2 a2 a3 a4 a5 I) (run4.sl.v84 I) (run4.sl.v93 a1 I) (View.readAt (Elt F) (Memref.whole cc0_scratch6).view (Rect.unit (s := S768x768) ![0, 0] S768x768.size inb_S768x768_S768x768_0_0).toLoadRect ((Memref.whole cc0_scratch6).view.rep I.Wo)) (View.readAt (Elt F) a15.view (Rect.unit (s := S1x768) ![0, 0] S1x768.size inb_S1x768_S1x768_0_0).toLoadRect (a15.view.rep I.bo)) = _
    rw [q3, q4, q5, q6, q7, View.readAt_rep_full,
      show View.readAt (Elt F) (Memref.whole cc0_scratch6).view (Rect.unit ![0, 0] S768x768.size inb_S768x768_S768x768_0_0).toLoadRect
        ((Memref.whole cc0_scratch6).view.rep I.Wo) = I.Wo from View.readAt_rep_full (s := S768x768) _ _ _]; rfl
  isplitl [H1 H2 H3 H4 H5 H9 H10 H11 H12 H13 H15 H16 H17 H19 H21]
  · iframe
  isplitr [HW]
  swap
  · iexists _; iexact HW
  isplitl [HID]
  · iexact HID
  isplitl [SQ SK SV]
  · iframe
  isplitl [SO HO CO]
  · iframe
  isplitl [HF]
  · iexact HF
  isplitr [HR]
  swap
  · iexact HR
  isplitl [S9]
  · iapply (stored_rows c (Memref.whole cc0_scratch9 : Memref sig .tc .vmem S1024x768 .f32) 3 (xnB I) v9 hv9 _ o1 _ ?_) $$ S9
    rw [e]; rfl
  iapply (stored_rows c (Memref.whole cc0_scratch10 : Memref sig .tc .vmem S1024x768 .f32) 3 (h2B I) v10 hv10 _ o1 _ ?_) $$ S10
  rw [e, View.readAt_rep_full, View.readAt_rep_full]; rfl

end Cert.KernelIdeal.Hand

end
-- ==== Proof.KI.RunF.lean ====
/-
  The sixth to eighth grid points: a chunk of the two last weights is waited for and its share of the last layer added.
-/
module

public import proofs.«01_k».proof.Proof.KI.Rows

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (a1 : Memref sig .tc .vmem S1024x768 .f32) (h1 : a1.IsWhole) (a2 : Memref sig .tc .vmem S1024x1 .f32) (h2 : a2.IsWhole)
  (a3 : Memref sig .tc .vmem S1x1024 .f32) (h3 : a3.IsWhole) (a4 : Memref sig .tc .vmem S1024x1 .f32) (h4 : a4.IsWhole)
  (a5 : Memref sig .tc .vmem S1x1024 .f32) (h5 : a5.IsWhole)
  (a9 : Memref sig .tc .vmem S1x768 .f32) (h9 : a9.IsWhole) (a10 : Memref sig .tc .vmem S1x768 .f32) (h10 : a10.IsWhole)
  (a11 : Memref sig .tc .vmem S1x768 .f32) (h11 : a11.IsWhole) (a12 : Memref sig .tc .vmem S1x768 .f32) (h12 : a12.IsWhole)
  (a13 : Memref sig .tc .vmem S1x768 .f32) (h13 : a13.IsWhole) (a15 : Memref sig .tc .vmem S1x768 .f32) (h15 : a15.IsWhole)
  (a16 : Memref sig .tc .vmem S1x768 .f32) (h16 : a16.IsWhole) (a17 : Memref sig .tc .vmem S1x768 .f32) (h17 : a17.IsWhole)
  (a19 : Memref sig .tc .vmem S1x3072 .f32) (h19 : a19.IsWhole) (a21 : Memref sig .tc .vmem S1x768 .f32) (h21 : a21.IsWhole)
  (a22 : Memref sig .tc .vmem S1024x768 .f32) (h22 : a22.IsWhole)

theorem run5 (c : Dev nD) (I : In F) (W : Waits sig Unit) (K : PUnit → sProp 𝕄) :
    iprop(wins a1 a2 a3 a4 a5 a9 a10 a11 a12 a13 a15 a16 a17 a19 a21 c I ∗ stB c I 4 ∗ owes (c : Thread nD τ) 0 W
        ∗ (iprop(wins a1 a2 a3 a4 a5 a9 a10 a11 a12 a13 a15 a16 a17 a19 a21 c I ∗ st6 c I ∗ (∃ W', owes (c : Thread nD τ) 0 W')) -∗ K ⟨⟩))
      ⊢ wp frame (wpE (defs₀ (F := F)) Variants.none c none) Set.univ
          (prog a1 h1 a2 h2 a3 h3 a4 h4 a5 h5 a9 h9 a10 h10 a11 h11 a12 h12 a13 h13 a15 h15 a16 h16 a17 h17 a19 h19 a21 h21 a22 h22 (grid0.coords t0_5)) K := by
  simp only [prog, cc0__body_eq_skeleton]; unfold cc0__body_skel wins stB st6 partSt fullSt fly0 land0
  iintro ⟨⟨H1, H2, H3, H4, H5, H9, H10, H11, H12, H13, H15, H16, H17, H19, H21⟩, ⟨HID, HS, HO, ⟨⟨F0, F1⟩, HF⟩, ⟨⟨%v9, %hv9, S9⟩, ⟨%v10, %hv10, S10⟩⟩, ⟨%f11, S11⟩⟩, HW, Hk⟩
  obtain rfl := agree_full _ _ hv9
  obtain rfl := agree_full _ _ hv10
  sl_exec
  sl_step
  iapply Hk
  have q1 : run5.sl.v28 I = w1C0 I := Memref.readAt_slice_rep (s := S768x3072) _ _ rfl _ _
  have q2 : run5.sl.v46 I = w2C0 I := Memref.readAt_slice_rep (s := S3072x768) _ _ rfl _ _
  isplitl [H1 H2 H3 H4 H5 H9 H10 H11 H12 H13 H15 H16 H17 H19 H21]
  · iframe
  isplitr [HW]
  swap
  · iexists _; iexact HW
  isplitl [HID]
  · iexact HID
  isplitl [HS]
  · iexact HS
  isplitl [HO]
  · iexact HO
  isplitl [F0 F1 F0_dst F0_src F1_dst F1_src HF]
  · isplitr [HF]
    · isplitl [F0_dst]
      · iexact F0_dst
      isplitl [F0_src]
      · iexact F0_src
      isplitl [F1_dst]
      · iexact F1_dst
      isplitl [F1_src]
      · iexact F1_src
      isplitl [F0]
      · iexact F0
      iexact F1
    · iexact HF
  isplitl [S9 S10]
  · iframe
  iapply (stored c (Memref.whole cc0_scratch11 : Memref sig .tc .vmem S1024x768 .f32) _ _ _ _ ?_) $$ S11
  rw [q1, q2, show View.readAt (Elt F) (Memref.whole cc0_scratch10).view (Rect.unit ![0, 0] S1024x768.size inb_S1024x768_S1024x768_0_0).toLoadRect
      ((Memref.whole cc0_scratch10).view.rep (h2V I)) = h2V I from View.readAt_rep_full (s := S1024x768) _ _ _,
    show View.readAt (Elt F) a19.view (Rect.unit (s := S1x3072) ![0, 0] S1x768.size inb_S1x3072_S1x768_0_0).toLoadRect (a19.view.rep I.bf1) = bfC0 I from
      View.readAt_rep_unit _ _ _ rfl _]; rfl

theorem run6 (c : Dev nD) (I : In F) (W : Waits sig Unit) (K : PUnit → sProp 𝕄) :
    iprop(wins a1 a2 a3 a4 a5 a9 a10 a11 a12 a13 a15 a16 a17 a19 a21 c I ∗ st6 c I ∗ owes (c : Thread nD τ) 0 W
        ∗ (iprop(wins a1 a2 a3 a4 a5 a9 a10 a11 a12 a13 a15 a16 a17 a19 a21 c I ∗ st7 c I ∗ (∃ W', owes (c : Thread nD τ) 0 W')) -∗ K ⟨⟩))
      ⊢ wp frame (wpE (defs₀ (F := F)) Variants.none c none) Set.univ
          (prog a1 h1 a2 h2 a3 h3 a4 h4 a5 h5 a9 h9 a10 h10 a11 h11 a12 h12 a13 h13 a15 h15 a16 h16 a17 h17 a19 h19 a21 h21 a22 h22 (grid0.coords t0_6)) K := by
  simp only [prog, cc0__body_eq_skeleton]; unfold cc0__body_skel wins st6 st7 fullSt fly1 land1
  iintro ⟨⟨H1, H2, H3, H4, H5, H9, H10, H11, H12, H13, H15, H16, H17, H19, H21⟩, ⟨HID, HS, HO, ⟨L0, ⟨F0, F1⟩, HF⟩, ⟨S9, S10⟩, S11⟩, HW, Hk⟩
  sl_exec
  sl_step
  iapply Hk
  have q1 : run6.sl.v28 I = w1C1 I := Memref.readAt_slice_rep (s := S768x3072) _ _ rfl _ _
  have q2 : run6.sl.v46 I = w2C1 I := Memref.readAt_slice_rep (s := S3072x768) _ _ rfl _ _
  isplitl [H1 H2 H3 H4 H5 H9 H10 H11 H12 H13 H15 H16 H17 H19 H21]
  · iframe
  isplitr [HW]
  swap
  · iexists _; iexact HW
  isplitl [HID]
  · iexact HID
  isplitl [HS]
  · iexact HS
  isplitl [HO]
  · iexact HO
  isplitl [L0 F0 F1 F0_dst F0_src F1_dst F1_src HF]
  · isplitl [L0]
    · iexact L0
    isplitr [HF]
    · isplitl [F0_dst]
      · iexact F0_dst
      isplitl [F0_src]
      · iexact F0_src
      isplitl [F1_dst]
      · iexact F1_dst
      isplitl [F1_src]
      · iexact F1_src
      isplitl [F0]
      · iexact F0
      iexact F1
    · iexact HF
  isplitl [S9 S10]
  · iframe
  iapply (stored c (Memref.whole cc0_scratch11 : Memref sig .tc .vmem S1024x768 .f32) _ _ _ _ ?_) $$ S11
  change k0_pay12 (View.readAt (Elt F) (Memref.whole cc0_scratch10).view (Rect.unit (s := S1024x768) ![0, 0] S1024x768.size inb_S1024x768_S1024x768_0_0).toLoadRect ((Memref.whole cc0_scratch10).view.rep (h2V I))) (run6.sl.v28 I) (View.readAt (Elt F) a19.view (Rect.unit (s := S1x3072) ![0, 768] S1x768.size inb_S1x3072_S1x768_0_768).toLoadRect (a19.view.rep I.bf1)) (run6.sl.v46 I)
      (View.readAt (Elt F) (Memref.whole cc0_scratch11).view (Rect.unit (s := S1024x768) ![0, 0] S1024x768.size inb_S1024x768_S1024x768_0_0).toLoadRect ((Memref.whole cc0_scratch11).view.rep (f1V I))) = _
  rw [q1, q2, show View.readAt (Elt F) (Memref.whole cc0_scratch10).view (Rect.unit ![0, 0] S1024x768.size inb_S1024x768_S1024x768_0_0).toLoadRect
      ((Memref.whole cc0_scratch10).view.rep (h2V I)) = h2V I from View.readAt_rep_full (s := S1024x768) _ _ _,
    show View.readAt (Elt F) a19.view (Rect.unit (s := S1x3072) ![0, 768] S1x768.size inb_S1x3072_S1x768_0_768).toLoadRect (a19.view.rep I.bf1) = bfC1 I from
      View.readAt_rep_unit _ _ _ rfl _,
    show View.readAt (Elt F) (Memref.whole cc0_scratch11).view (Rect.unit ![0, 0] S1024x768.size inb_S1024x768_S1024x768_0_0).toLoadRect
      ((Memref.whole cc0_scratch11).view.rep (f1V I)) = f1V I from View.readAt_rep_full (s := S1024x768) _ _ _]; rfl

theorem run7 (c : Dev nD) (I : In F) (W : Waits sig Unit) (K : PUnit → sProp 𝕄) :
    iprop(wins a1 a2 a3 a4 a5 a9 a10 a11 a12 a13 a15 a16 a17 a19 a21 c I ∗ st7 c I ∗ owes (c : Thread nD τ) 0 W
        ∗ (iprop(wins a1 a2 a3 a4 a5 a9 a10 a11 a12 a13 a15 a16 a17 a19 a21 c I ∗ st8 c I ∗ (∃ W', owes (c : Thread nD τ) 0 W')) -∗ K ⟨⟩))
      ⊢ wp frame (wpE (defs₀ (F := F)) Variants.none c none) Set.univ
          (prog a1 h1 a2 h2 a3 h3 a4 h4 a5 h5 a9 h9 a10 h10 a11 h11 a12 h12 a13 h13 a15 h15 a16 h16 a17 h17 a19 h19 a21 h21 a22 h22 (grid0.coords t0_7)) K := by
  simp only [prog, cc0__body_eq_skeleton]; unfold cc0__body_skel wins st7 st8 fullSt fly2 land2
  iintro ⟨⟨H1, H2, H3, H4, H5, H9, H10, H11, H12, H13, H15, H16, H17, H19, H21⟩, ⟨HID, HS, HO, ⟨L0, L1, ⟨F0, F1⟩, HF⟩, ⟨S9, S10⟩, S11⟩, HW, Hk⟩
  sl_exec
  sl_step
  iapply Hk
  have q1 : run7.sl.v28 I = w1C2 I := Memref.readAt_slice_rep (s := S768x3072) _ _ rfl _ _
  have q2 : run7.sl.v46 I = w2C2 I := Memref.readAt_slice_rep (s := S3072x768) _ _ rfl _ _
  isplitl [H1 H2 H3 H4 H5 H9 H10 H11 H12 H13 H15 H16 H17 H19 H21]
  · iframe
  isplitr [HW]
  swap
  · iexists _; iexact HW
  isplitl [HID]
  · iexact HID
  isplitl [HS]
  · iexact HS
  isplitl [HO]
  · iexact HO
  isplitl [L0 L1 F0 F1 F0_dst F0_src F1_dst F1_src HF]
  · isplitl [L0]
    · iexact L0
    isplitl [L1]
    · iexact L1
    isplitr [HF]
    · isplitl [F0_dst]
      · iexact F0_dst
      isplitl [F0_src]
      · iexact F0_src
      isplitl [F1_dst]
      · iexact F1_dst
      isplitl [F1_src]
      · iexact F1_src
      isplitl [F0]
      · iexact F0
      iexact F1
    · iexact HF
  isplitl [S9 S10]
  · iframe
  iapply (stored c (Memref.whole cc0_scratch11 : Memref sig .tc .vmem S1024x768 .f32) _ _ _ _ ?_) $$ S11
  change k0_pay13 (View.readAt (Elt F) (Memref.whole cc0_scratch10).view (Rect.unit (s := S1024x768) ![0, 0] S1024x768.size inb_S1024x768_S1024x768_0_0).toLoadRect ((Memref.whole cc0_scratch10).view.rep (h2V I))) (run7.sl.v28 I) (View.readAt (Elt F) a19.view (Rect.unit (s := S1x3072) ![0, 1536] S1x768.size inb_S1x3072_S1x768_0_1536).toLoadRect (a19.view.rep I.bf1)) (run7.sl.v46 I)
      (View.readAt (Elt F) (Memref.whole cc0_scratch11).view (Rect.unit (s := S1024x768) ![0, 0] S1024x768.size inb_S1024x768_S1024x768_0_0).toLoadRect ((Memref.whole cc0_scratch11).view.rep (f2V I))) = _
  rw [q1, q2, show View.readAt (Elt F) (Memref.whole cc0_scratch10).view (Rect.unit ![0, 0] S1024x768.size inb_S1024x768_S1024x768_0_0).toLoadRect
      ((Memref.whole cc0_scratch10).view.rep (h2V I)) = h2V I from View.readAt_rep_full (s := S1024x768) _ _ _,
    show View.readAt (Elt F) a19.view (Rect.unit (s := S1x3072) ![0, 1536] S1x768.size inb_S1x3072_S1x768_0_1536).toLoadRect (a19.view.rep I.bf1) = bfC2 I from
      View.readAt_rep_unit _ _ _ rfl _,
    show View.readAt (Elt F) (Memref.whole cc0_scratch11).view (Rect.unit ![0, 0] S1024x768.size inb_S1024x768_S1024x768_0_0).toLoadRect
      ((Memref.whole cc0_scratch11).view.rep (f2V I)) = f2V I from View.readAt_rep_full (s := S1024x768) _ _ _]; rfl

end Cert.KernelIdeal.Hand

end
-- ==== Proof.KI.Run8.lean ====
/-
  The last grid point: the last chunk, the residual stream and the last bias, and the result is stored.
-/
module

public import proofs.«01_k».proof.Proof.KI.Rows

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

variable (a1 : Memref sig .tc .vmem S1024x768 .f32) (h1 : a1.IsWhole) (a2 : Memref sig .tc .vmem S1024x1 .f32) (h2 : a2.IsWhole)
  (a3 : Memref sig .tc .vmem S1x1024 .f32) (h3 : a3.IsWhole) (a4 : Memref sig .tc .vmem S1024x1 .f32) (h4 : a4.IsWhole)
  (a5 : Memref sig .tc .vmem S1x1024 .f32) (h5 : a5.IsWhole)
  (a9 : Memref sig .tc .vmem S1x768 .f32) (h9 : a9.IsWhole) (a10 : Memref sig .tc .vmem S1x768 .f32) (h10 : a10.IsWhole)
  (a11 : Memref sig .tc .vmem S1x768 .f32) (h11 : a11.IsWhole) (a12 : Memref sig .tc .vmem S1x768 .f32) (h12 : a12.IsWhole)
  (a13 : Memref sig .tc .vmem S1x768 .f32) (h13 : a13.IsWhole) (a15 : Memref sig .tc .vmem S1x768 .f32) (h15 : a15.IsWhole)
  (a16 : Memref sig .tc .vmem S1x768 .f32) (h16 : a16.IsWhole) (a17 : Memref sig .tc .vmem S1x768 .f32) (h17 : a17.IsWhole)
  (a19 : Memref sig .tc .vmem S1x3072 .f32) (h19 : a19.IsWhole) (a21 : Memref sig .tc .vmem S1x768 .f32) (h21 : a21.IsWhole)
  (a22 : Memref sig .tc .vmem S1024x768 .f32) (h22 : a22.IsWhole)

theorem run8 (c : Dev nD) (I : In F) (W : Waits sig Unit) (K : PUnit → sProp 𝕄) :
    iprop(wins a1 a2 a3 a4 a5 a9 a10 a11 a12 a13 a15 a16 a17 a19 a21 c I ∗ st8 c I ∗ anyAt F c a22 ∗ owes (c : Thread nD τ) 0 W
        ∗ (iprop(wins a1 a2 a3 a4 a5 a9 a10 a11 a12 a13 a15 a16 a17 a19 a21 c I ∗ st9 c I ∗ hold c a22 (outV I) ∗ (∃ W', owes (c : Thread nD τ) 0 W')) -∗ K ⟨⟩))
      ⊢ wp frame (wpE (defs₀ (F := F)) Variants.none c none) Set.univ
          (prog a1 h1 a2 h2 a3 h3 a4 h4 a5 h5 a9 h9 a10 h10 a11 h11 a12 h12 a13 h13 a15 h15 a16 h16 a17 h17 a19 h19 a21 h21 a22 h22 (grid0.coords t0_8)) K := by
  simp only [prog, cc0__body_eq_skeleton]; unfold cc0__body_skel wins st8 st9 fullSt fly3 land3
  iintro ⟨⟨H1, H2, H3, H4, H5, H9, H10, H11, H12, H13, H15, H16, H17, H19, H21⟩, ⟨HID, HS, HO, ⟨L0, L1, L2, ⟨F0, F1⟩⟩, ⟨S9, S10⟩, S11⟩, ⟨%f22, H22⟩, HW, Hk⟩
  sl_exec
  sl_step
  iapply Hk
  have q1 : run8.sl.v28 I = w1C3 I := Memref.readAt_slice_rep (s := S768x3072) _ _ rfl _ _
  have q2 : run8.sl.v46 I = w2C3 I := Memref.readAt_slice_rep (s := S3072x768) _ _ rfl _ _
  have e : run8.sl.v51 a19 I = k0_pay14 (h2V I) (w1C3 I) (bfC3 I) (w2C3 I) (xnV I) (f3V I) := by
    change k0_pay14 (View.readAt (Elt F) (Memref.whole cc0_scratch10).view (Rect.unit (s := S1024x768) ![0, 0] S1024x768.size inb_S1024x768_S1024x768_0_0).toLoadRect ((Memref.whole cc0_scratch10).view.rep (h2V I))) (run8.sl.v28 I) (View.readAt (Elt F) a19.view (Rect.unit (s := S1x3072) ![0, 2304] S1x768.size inb_S1x3072_S1x768_0_2304).toLoadRect (a19.view.rep I.bf1)) (run8.sl.v46 I)
      (View.readAt (Elt F) (Memref.whole cc0_scratch9).view (Rect.unit (s := S1024x768) ![0, 0] S1024x768.size inb_S1024x768_S1024x768_0_0).toLoadRect ((Memref.whole cc0_scratch9).view.rep (xnV I))) (View.readAt (Elt F) (Memref.whole cc0_scratch11).view (Rect.unit (s := S1024x768) ![0, 0] S1024x768.size inb_S1024x768_S1024x768_0_0).toLoadRect ((Memref.whole cc0_scratch11).view.rep (f3V I))) = _
    rw [q1, q2, show View.readAt (Elt F) (Memref.whole cc0_scratch10).view (Rect.unit ![0, 0] S1024x768.size inb_S1024x768_S1024x768_0_0).toLoadRect
      ((Memref.whole cc0_scratch10).view.rep (h2V I)) = h2V I from View.readAt_rep_full (s := S1024x768) _ _ _,
      show View.readAt (Elt F) a19.view (Rect.unit (s := S1x3072) ![0, 2304] S1x768.size inb_S1x3072_S1x768_0_2304).toLoadRect (a19.view.rep I.bf1) = bfC3 I from
      View.readAt_rep_unit _ _ _ rfl _,
      show View.readAt (Elt F) (Memref.whole cc0_scratch9).view (Rect.unit ![0, 0] S1024x768.size inb_S1024x768_S1024x768_0_0).toLoadRect
      ((Memref.whole cc0_scratch9).view.rep (xnV I)) = xnV I from View.readAt_rep_full (s := S1024x768) _ _ _,
      show View.readAt (Elt F) (Memref.whole cc0_scratch11).view (Rect.unit ![0, 0] S1024x768.size inb_S1024x768_S1024x768_0_0).toLoadRect
      ((Memref.whole cc0_scratch11).view.rep (f3V I)) = f3V I from View.readAt_rep_full (s := S1024x768) _ _ _]
  isplitl [H1 H2 H3 H4 H5 H9 H10 H11 H12 H13 H15 H16 H17 H19 H21]
  · iframe
  isplitr [H22 HW]
  swap
  · isplitl [H22]
    · iapply (stored c a22 _ _ _ _ ?_) $$ H22
      rw [e, View.readAt_rep_full]; rfl
    · iexists _; iexact HW
  isplitl [HID]
  · iexact HID
  isplitl [HS]
  · iexact HS
  isplitl [HO]
  · iexact HO
  isplitl [L0 L1 L2 F0 F1 F0_dst F0_src F1_dst F1_src]
  · isplitl [L0]
    · iexact L0
    isplitl [L1]
    · iexact L1
    isplitl [L2]
    · iexact L2
    isplitl [F0_dst]
    · iexact F0_dst
    isplitl [F0_src]
    · iexact F0_src
    isplitl [F1_dst]
    · iexact F1_dst
    isplitl [F1_src]
    · iexact F1_src
    isplitl [F0]
    · iexact F0
    iexact F1
  isplitl [S9 S10]
  · iframe
  iexact S11

end Cert.KernelIdeal.Hand

end
-- ==== Proof.KI.Data.lean ====
/-
  What the region starts from and ends with, in the terms of `State`; and the windows' blocks.
-/
module

public import proofs.«01_k».proof.Proof.KI.Run0
public import proofs.«01_k».proof.Proof.KI.Run1
public import proofs.«01_k».proof.Proof.KI.RunB
public import proofs.«01_k».proof.Proof.KI.RunF
public import proofs.«01_k».proof.Proof.KI.Run8
public import proofs.«01_k».proof.Proof.Gen.KernelIdeal.Frame
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The operands, and the windows' blocks -/

/-- The operands as the kernel's region finds them. -/
def inOf (c : Dev nD) : In F where
  x := V m c main_arg0
  xi := V m c main_v1
  xr := V m c main_v5
  yi := V m c main_v2
  yr := V m c main_v8
  bq := V m c main_v9
  bk := V m c main_v10
  bv := V m c main_v11
  g1 := V m c main_v12
  b1 := V m c main_v13
  bo := V m c main_v14
  g2 := V m c main_v15
  b2 := V m c main_v16
  bf1 := V m c main_v17
  bf2 := V m c main_v18
  Wq := V m c main_arg2
  Wk := V m c main_arg4
  Wv := V m c main_arg6
  Wo := V m c main_arg8
  W1 := V m c main_arg14
  W2 := V m c main_arg16

/-- Every read window's block is its whole array, at every point. -/
theorem blk_0 (c : Dev nD) (t : Fin cfg0.N) : iblk m c 0 t = (inOf m c).x := View.readAt_full (Memref.whole main_arg0).view (V m c main_arg0) _
theorem blk_1 (c : Dev nD) (t : Fin cfg0.N) : iblk m c 1 t = (inOf m c).xi := View.readAt_full (Memref.whole main_v1).view (V m c main_v1) _
theorem blk_2 (c : Dev nD) (t : Fin cfg0.N) : iblk m c 2 t = (inOf m c).xr := View.readAt_full (Memref.whole main_v5).view (V m c main_v5) _
theorem blk_3 (c : Dev nD) (t : Fin cfg0.N) : iblk m c 3 t = (inOf m c).yi := View.readAt_full (Memref.whole main_v2).view (V m c main_v2) _
theorem blk_4 (c : Dev nD) (t : Fin cfg0.N) : iblk m c 4 t = (inOf m c).yr := View.readAt_full (Memref.whole main_v8).view (V m c main_v8) _
theorem blk_5 (c : Dev nD) (t : Fin cfg0.N) : iblk m c 5 t = (inOf m c).bq := View.readAt_full (Memref.whole main_v9).view (V m c main_v9) _
theorem blk_6 (c : Dev nD) (t : Fin cfg0.N) : iblk m c 6 t = (inOf m c).bk := View.readAt_full (Memref.whole main_v10).view (V m c main_v10) _
theorem blk_7 (c : Dev nD) (t : Fin cfg0.N) : iblk m c 7 t = (inOf m c).bv := View.readAt_full (Memref.whole main_v11).view (V m c main_v11) _
theorem blk_8 (c : Dev nD) (t : Fin cfg0.N) : iblk m c 8 t = (inOf m c).g1 := View.readAt_full (Memref.whole main_v12).view (V m c main_v12) _
theorem blk_9 (c : Dev nD) (t : Fin cfg0.N) : iblk m c 9 t = (inOf m c).b1 := View.readAt_full (Memref.whole main_v13).view (V m c main_v13) _
theorem blk_10 (c : Dev nD) (t : Fin cfg0.N) : iblk m c 10 t = (inOf m c).bo := View.readAt_full (Memref.whole main_v14).view (V m c main_v14) _
theorem blk_11 (c : Dev nD) (t : Fin cfg0.N) : iblk m c 11 t = (inOf m c).g2 := View.readAt_full (Memref.whole main_v15).view (V m c main_v15) _
theorem blk_12 (c : Dev nD) (t : Fin cfg0.N) : iblk m c 12 t = (inOf m c).b2 := View.readAt_full (Memref.whole main_v16).view (V m c main_v16) _
theorem blk_13 (c : Dev nD) (t : Fin cfg0.N) : iblk m c 13 t = (inOf m c).bf1 := View.readAt_full (Memref.whole main_v17).view (V m c main_v17) _
theorem blk_14 (c : Dev nD) (t : Fin cfg0.N) : iblk m c 14 t = (inOf m c).bf2 := View.readAt_full (Memref.whole main_v18).view (V m c main_v18) _

/-! ## The states between the points -/

/-- A whole buffer held through its memref is the buffer. -/
theorem hold_whole (c : Dev nD) (b : Ref sig .tc) (v : Buf (Elt F) ((c : Thread nD τ).loc b)) :
    (((c : Thread nD τ).loc b) ↦{fullShare} v : sProp 𝕄) = hold c (Memref.whole b) v := by
  have h : (Memref.whole b).view.set = Finset.univ := View.set_whole b
  have e : (hold c (Memref.whole b) v : sProp 𝕄) = ((Memref.whole b).view.loc (c : Thread nD τ) ↦[(Memref.whole b).view.set]{fullShare} v) :=
    (pointsTo_rep (c : Thread nD τ) (Memref.whole b) v fullShare).symm
  rw [e, h]
theorem any_eq (c : Dev nD) (b : Ref sig .tc) :
    (iprop(∃ f, (c : Thread nD τ).loc b ↦{fullShare} f) : sProp 𝕄) = anyAt F c (Memref.whole b) := by
  unfold anyAt
  have h : (Memref.whole b).view.set = Finset.univ := View.set_whole b
  rw [h]

/-- What is held before point `n`. -/
def stAt (c : Dev nD) (I : In F) : ℕ → sProp 𝕄
  | 0 => st0 c I
  | 1 => st1 c I
  | 2 => stB c I 1
  | 3 => stB c I 2
  | 4 => stB c I 3
  | 5 => stB c I 4
  | 6 => st6 c I
  | 7 => st7 c I
  | 8 => st8 c I
  | _ => st9 c I

/-- The kernel's own transfer cells. -/
abbrev osem0 : Fin 12 → SemLoc sig := fun j => (![SemLoc.dma ⟨16, by decide⟩, SemLoc.dma ⟨17, by decide⟩, SemLoc.dma ⟨18, by decide⟩, SemLoc.dma ⟨19, by decide⟩, SemLoc.dma ⟨20, by decide⟩, SemLoc.dma ⟨21, by decide⟩, SemLoc.dma ⟨22, by decide⟩, SemLoc.dma ⟨23, by decide⟩, SemLoc.dma ⟨24, by decide⟩, SemLoc.dma ⟨25, by decide⟩, SemLoc.dma ⟨26, by decide⟩, SemLoc.dma ⟨27, by decide⟩] : Fin 12 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(cell F c ⟨16, by decide⟩ ∗ cell F c ⟨17, by decide⟩ ∗ cell F c ⟨18, by decide⟩ ∗ cell F c ⟨19, by decide⟩ ∗ cell F c ⟨20, by decide⟩ ∗ cell F c ⟨21, by decide⟩ ∗ cell F c ⟨22, by decide⟩ ∗ cell F c ⟨23, by decide⟩ ∗ cell F c ⟨24, by decide⟩ ∗ cell F c ⟨25, by decide⟩ ∗ cell F c ⟨26, by decide⟩ ∗ cell F c ⟨27, by decide⟩) := by
  rw [Pipeline.ownSems0_eq_of_list c osem0 [0, 1, 2, 3, 4, 5, 6, 7, 8, 9, 10, 11] (by decide) (by decide)]; rfl
/-- The arrays the body copies from itself. -/
def H0 : Finset (Ref sig .tc) := {main_arg2, main_arg4, main_arg6, main_arg8, main_arg14, main_arg16}
theorem H0_sub : H0 ⊆ Pipeline.restRefs sig spec0 := by decide
theorem hbm_eq (c : Dev nD) :
    (bigSep H0 (fun b => ((c : Thread nD τ).loc b) ↦{fullShare} V m c b) : sProp 𝕄)
      = iprop(hold c (Memref.whole main_arg2) (inOf m c).Wq ∗ hold c (Memref.whole main_arg4) (inOf m c).Wk ∗ hold c (Memref.whole main_arg6) (inOf m c).Wv ∗ hold c (Memref.whole main_arg8) (inOf m c).Wo ∗ hold c (Memref.whole main_arg14) (inOf m c).W1 ∗ hold c (Memref.whole main_arg16) (inOf m c).W2) := by
  rw [BI.bigSep_eq_bigSepL_of_eq [main_arg2, main_arg4, main_arg6, main_arg8, main_arg14, main_arg16] (by decide) (by decide)]
  show iprop(((c : Thread nD τ).loc main_arg2 ↦{fullShare} V m c main_arg2) ∗ ((c : Thread nD τ).loc main_arg4 ↦{fullShare} V m c main_arg4) ∗ ((c : Thread nD τ).loc main_arg6 ↦{fullShare} V m c main_arg6) ∗ ((c : Thread nD τ).loc main_arg8 ↦{fullShare} V m c main_arg8) ∗ ((c : Thread nD τ).loc main_arg14 ↦{fullShare} V m c main_arg14) ∗ ((c : Thread nD τ).loc main_arg16 ↦{fullShare} V m c main_arg16)) = _
  rw [hold_whole c main_arg2, hold_whole c main_arg4, hold_whole c main_arg6, hold_whole c main_arg8, hold_whole c main_arg14, hold_whole c main_arg16]; rfl

/-- The region's start is the state before the first point. -/
theorem start_in (c : Dev nD) : Pipeline.ΦD osem0 spec0 H0 (V m) c ⊢ (iprop(st0 c (inOf m c) ∗ ∃ r, prngReg c r) : sProp 𝕄) := by
  rw [Pipeline.ΦD_eq, scopedRest0_eq, ownSems00_eq, hbm_eq]
  unfold st0 idleSt restSt
  rw [any_eq c cc0_scratch0, any_eq c cc0_scratch1, any_eq c cc0_scratch2, any_eq c cc0_scratch3, any_eq c cc0_scratch4, any_eq c cc0_scratch5, any_eq c cc0_scratch6, any_eq c cc0_scratch7, any_eq c cc0_scratch8, any_eq c cc0_scratch9, any_eq c cc0_scratch10, any_eq c cc0_scratch11]
  iintro ⟨⟨S0, S1, S2, S3, S4, S5, S6, S7, S8, S9, S10, S11⟩, HP, ⟨C0, C1, C2, C3, C4, C5, C6, C7, C8, C9, C10, C11⟩, ⟨A0, A1, A2, A3, A4, A5⟩⟩
  isplitr [HP]
  swap
  · iexact HP
  iframe

/-- The state after the last point is the region's end. -/
theorem end_out (c : Dev nD) : (iprop(st9 c (inOf m c) ∗ ∃ r, prngReg c r) : sProp 𝕄) ⊢ Pipeline.ΦD osem0 spec0 H0 (V m) c := by
  rw [Pipeline.ΦD_eq, scopedRest0_eq, ownSems00_eq, hbm_eq]
  unfold st9 idleSt qkvSt woSt land0 land1 land2 land3 fullSt
  rw [any_eq c cc0_scratch0, any_eq c cc0_scratch1, any_eq c cc0_scratch2, any_eq c cc0_scratch3, any_eq c cc0_scratch4, any_eq c cc0_scratch5, any_eq c cc0_scratch6, any_eq c cc0_scratch7, any_eq c cc0_scratch8, any_eq c cc0_scratch9, any_eq c cc0_scratch10, any_eq c cc0_scratch11]
  iintro ⟨⟨⟨A0, A1, A2, S3, S4, S5, C0, C1, C2⟩, ⟨S0, S1, S2⟩, ⟨S6, A3, C3⟩, ⟨⟨P0, Q0, R0, T0, C4, C5⟩, ⟨P1, Q1, R1, T1, C6, C7⟩, ⟨P2, Q2, R2, T2, C8, C9⟩, ⟨P3, Q3, R3, T3, C10, C11⟩⟩, ⟨S9, S10⟩, S11⟩, HP⟩
  ihave A4 := (Entails.of_eq (w1_split c (inOf m c)).symm) $$ [Q0 Q1 Q2 Q3]
  · iframe
  ihave A5 := (Entails.of_eq (w2_split c (inOf m c)).symm) $$ [T0 T1 T2 T3]
  · iframe
  ihave P0 := (anyAt_of c _ _) $$ P0
  ihave P1 := (anyAt_of c _ _) $$ P1
  ihave P2 := (anyAt_of c _ _) $$ P2
  ihave P3 := (anyAt_of c _ _) $$ P3
  ihave R0 := (anyAt_of c _ _) $$ R0
  ihave R1 := (anyAt_of c _ _) $$ R1
  ihave R2 := (anyAt_of c _ _) $$ R2
  ihave R3 := (anyAt_of c _ _) $$ R3
  ihave S7 := (s1_join c) $$ [P0 P1 P2 P3]
  · iframe
  ihave S8 := (s2_join c) $$ [R0 R1 R2 R3]
  · iframe
  ihave S0 := (anyAt_of c _ _) $$ S0
  ihave S1 := (anyAt_of c _ _) $$ S1
  ihave S2 := (anyAt_of c _ _) $$ S2
  ihave S6 := (anyAt_of c _ _) $$ S6
  ihave S9 := (anyAt_of c _ _) $$ S9
  ihave S10 := (anyAt_of c _ _) $$ S10
  ihave S11 := (anyAt_of c _ _) $$ S11
  isplitr [HP A0 A1 A2 A3 A4 A5 C0 C1 C2 C3 C4 C5 C6 C7 C8 C9 C10 C11]
  · iframe
  isplitl [HP]
  · iexact HP
  isplitl [C0 C1 C2 C3 C4 C5 C6 C7 C8 C9 C10 C11]
  · iframe
  iframe

end Cert.KernelIdeal.Hand

end
-- ==== Proof.KI.Body.lean ====
/-
  The body meets the pipeline's demand at each of the nine grid points.
-/
module

public import proofs.«01_k».proof.Proof.KI.Data

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What the windows hold after a point, what is held between points, and nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outV (inOf m c)
    | ⟨_ + 16, h⟩ => absurd h (Nat.not_lt.mpr (Nat.le_add_left 16 _))
  Φ t := iprop(stAt c (inOf m c) t.val ∗ ∃ r, prngReg c r)
  q _ := fullShare
  owed _ := 0

theorem arrive_0 (c : Dev nD) (t : Fin cfg0.N) :
    (iprop(∃ d, owns (c : Thread nD τ) (st0_0 t) fullShare ((dats m 0 c).before 0 t d)) : sProp 𝕄) ⊢ hold c (st0_0 t) (inOf m c).x := by
  have h : ∀ d, (dats m 0 c).before 0 t d = (inOf m c).x := fun d =>
    ((dats m 0 c).before_in_eq_fetched 0 rfl (fun _ => rfl) (fun _ _ _ => rfl) (fun t => rfl) t d).trans (blk_0 m c t)
  have e : ∀ d, (owns (c : Thread nD τ) (st0_0 t) fullShare ((dats m 0 c).before 0 t d) : sProp 𝕄) = hold c (st0_0 t) (inOf m c).x := fun d => by
    rw [h, owns_eq_rep]
  iintro ⟨%d, H⟩
  ihave H := (Entails.of_eq (e d)) $$ H
  iexact H
theorem leave_0 (c : Dev nD) (t : Fin cfg0.N) :
    (hold c (st0_0 t) (inOf m c).x : sProp 𝕄) = owns (c : Thread nD τ) (st0_0 t) fullShare ((dats m 0 c).after 0 t) := by
  rw [show (dats m 0 c).after 0 t = (inOf m c).x from blk_0 m c t, owns_eq_rep]
theorem arrive_1 (c : Dev nD) (t : Fin cfg0.N) :
    (iprop(∃ d, owns (c : Thread nD τ) (st0_1 t) fullShare ((dats m 0 c).before 1 t d)) : sProp 𝕄) ⊢ hold c (st0_1 t) (inOf m c).xi := by
  have h : ∀ d, (dats m 0 c).before 1 t d = (inOf m c).xi := fun d =>
    ((dats m 0 c).before_in_eq_fetched 1 rfl (fun _ => rfl) (fun _ _ _ => rfl) (fun t => rfl) t d).trans (blk_1 m c t)
  have e : ∀ d, (owns (c : Thread nD τ) (st0_1 t) fullShare ((dats m 0 c).before 1 t d) : sProp 𝕄) = hold c (st0_1 t) (inOf m c).xi := fun d => by
    rw [h, owns_eq_rep]
  iintro ⟨%d, H⟩
  ihave H := (Entails.of_eq (e d)) $$ H
  iexact H
theorem leave_1 (c : Dev nD) (t : Fin cfg0.N) :
    (hold c (st0_1 t) (inOf m c).xi : sProp 𝕄) = owns (c : Thread nD τ) (st0_1 t) fullShare ((dats m 0 c).after 1 t) := by
  rw [show (dats m 0 c).after 1 t = (inOf m c).xi from blk_1 m c t, owns_eq_rep]
theorem arrive_2 (c : Dev nD) (t : Fin cfg0.N) :
    (iprop(∃ d, owns (c : Thread nD τ) (st0_2 t) fullShare ((dats m 0 c).before 2 t d)) : sProp 𝕄) ⊢ hold c (st0_2 t) (inOf m c).xr := by
  have h : ∀ d, (dats m 0 c).before 2 t d = (inOf m c).xr := fun d =>
    ((dats m 0 c).before_in_eq_fetched 2 rfl (fun _ => rfl) (fun _ _ _ => rfl) (fun t => rfl) t d).trans (blk_2 m c t)
  have e : ∀ d, (owns (c : Thread nD τ) (st0_2 t) fullShare ((dats m 0 c).before 2 t d) : sProp 𝕄) = hold c (st0_2 t) (inOf m c).xr := fun d => by
    rw [h, owns_eq_rep]
  iintro ⟨%d, H⟩
  ihave H := (Entails.of_eq (e d)) $$ H
  iexact H
theorem leave_2 (c : Dev nD) (t : Fin cfg0.N) :
    (hold c (st0_2 t) (inOf m c).xr : sProp 𝕄) = owns (c : Thread nD τ) (st0_2 t) fullShare ((dats m 0 c).after 2 t) := by
  rw [show (dats m 0 c).after 2 t = (inOf m c).xr from blk_2 m c t, owns_eq_rep]
theorem arrive_3 (c : Dev nD) (t : Fin cfg0.N) :
    (iprop(∃ d, owns (c : Thread nD τ) (st0_3 t) fullShare ((dats m 0 c).before 3 t d)) : sProp 𝕄) ⊢ hold c (st0_3 t) (inOf m c).yi := by
  have h : ∀ d, (dats m 0 c).before 3 t d = (inOf m c).yi := fun d =>
    ((dats m 0 c).before_in_eq_fetched 3 rfl (fun _ => rfl) (fun _ _ _ => rfl) (fun t => rfl) t d).trans (blk_3 m c t)
  have e : ∀ d, (owns (c : Thread nD τ) (st0_3 t) fullShare ((dats m 0 c).before 3 t d) : sProp 𝕄) = hold c (st0_3 t) (inOf m c).yi := fun d => by
    rw [h, owns_eq_rep]
  iintro ⟨%d, H⟩
  ihave H := (Entails.of_eq (e d)) $$ H
  iexact H
theorem leave_3 (c : Dev nD) (t : Fin cfg0.N) :
    (hold c (st0_3 t) (inOf m c).yi : sProp 𝕄) = owns (c : Thread nD τ) (st0_3 t) fullShare ((dats m 0 c).after 3 t) := by
  rw [show (dats m 0 c).after 3 t = (inOf m c).yi from blk_3 m c t, owns_eq_rep]
theorem arrive_4 (c : Dev nD) (t : Fin cfg0.N) :
    (iprop(∃ d, owns (c : Thread nD τ) (st0_4 t) fullShare ((dats m 0 c).before 4 t d)) : sProp 𝕄) ⊢ hold c (st0_4 t) (inOf m c).yr := by
  have h : ∀ d, (dats m 0 c).before 4 t d = (inOf m c).yr := fun d =>
    ((dats m 0 c).before_in_eq_fetched 4 rfl (fun _ => rfl) (fun _ _ _ => rfl) (fun t => rfl) t d).trans (blk_4 m c t)
  have e : ∀ d, (owns (c : Thread nD τ) (st0_4 t) fullShare ((dats m 0 c).before 4 t d) : sProp 𝕄) = hold c (st0_4 t) (inOf m c).yr := fun d => by
    rw [h, owns_eq_rep]
  iintro ⟨%d, H⟩
  ihave H := (Entails.of_eq (e d)) $$ H
  iexact H
theorem leave_4 (c : Dev nD) (t : Fin cfg0.N) :
    (hold c (st0_4 t) (inOf m c).yr : sProp 𝕄) = owns (c : Thread nD τ) (st0_4 t) fullShare ((dats m 0 c).after 4 t) := by
  rw [show (dats m 0 c).after 4 t = (inOf m c).yr from blk_4 m c t, owns_eq_rep]
theorem arrive_5 (c : Dev nD) (t : Fin cfg0.N) :
    (iprop(∃ d, owns (c : Thread nD τ) (st0_5 t) fullShare ((dats m 0 c).before 5 t d)) : sProp 𝕄) ⊢ hold c (st0_5 t) (inOf m c).bq := by
  have h : ∀ d, (dats m 0 c).before 5 t d = (inOf m c).bq := fun d =>
    ((dats m 0 c).before_in_eq_fetched 5 rfl (fun _ => rfl) (fun _ _ _ => rfl) (fun t => rfl) t d).trans (blk_5 m c t)
  have e : ∀ d, (owns (c : Thread nD τ) (st0_5 t) fullShare ((dats m 0 c).before 5 t d) : sProp 𝕄) = hold c (st0_5 t) (inOf m c).bq := fun d => by
    rw [h, owns_eq_rep]
  iintro ⟨%d, H⟩
  ihave H := (Entails.of_eq (e d)) $$ H
  iexact H
theorem leave_5 (c : Dev nD) (t : Fin cfg0.N) :
    (hold c (st0_5 t) (inOf m c).bq : sProp 𝕄) = owns (c : Thread nD τ) (st0_5 t) fullShare ((dats m 0 c).after 5 t) := by
  rw [show (dats m 0 c).after 5 t = (inOf m c).bq from blk_5 m c t, owns_eq_rep]
theorem arrive_6 (c : Dev nD) (t : Fin cfg0.N) :
    (iprop(∃ d, owns (c : Thread nD τ) (st0_6 t) fullShare ((dats m 0 c).before 6 t d)) : sProp 𝕄) ⊢ hold c (st0_6 t) (inOf m c).bk := by
  have h : ∀ d, (dats m 0 c).before 6 t d = (inOf m c).bk := fun d =>
    ((dats m 0 c).before_in_eq_fetched 6 rfl (fun _ => rfl) (fun _ _ _ => rfl) (fun t => rfl) t d).trans (blk_6 m c t)
  have e : ∀ d, (owns (c : Thread nD τ) (st0_6 t) fullShare ((dats m 0 c).before 6 t d) : sProp 𝕄) = hold c (st0_6 t) (inOf m c).bk := fun d => by
    rw [h, owns_eq_rep]
  iintro ⟨%d, H⟩
  ihave H := (Entails.of_eq (e d)) $$ H
  iexact H
theorem leave_6 (c : Dev nD) (t : Fin cfg0.N) :
    (hold c (st0_6 t) (inOf m c).bk : sProp 𝕄) = owns (c : Thread nD τ) (st0_6 t) fullShare ((dats m 0 c).after 6 t) := by
  rw [show (dats m 0 c).after 6 t = (inOf m c).bk from blk_6 m c t, owns_eq_rep]
theorem arrive_7 (c : Dev nD) (t : Fin cfg0.N) :
    (iprop(∃ d, owns (c : Thread nD τ) (st0_7 t) fullShare ((dats m 0 c).before 7 t d)) : sProp 𝕄) ⊢ hold c (st0_7 t) (inOf m c).bv := by
  have h : ∀ d, (dats m 0 c).before 7 t d = (inOf m c).bv := fun d =>
    ((dats m 0 c).before_in_eq_fetched 7 rfl (fun _ => rfl) (fun _ _ _ => rfl) (fun t => rfl) t d).trans (blk_7 m c t)
  have e : ∀ d, (owns (c : Thread nD τ) (st0_7 t) fullShare ((dats m 0 c).before 7 t d) : sProp 𝕄) = hold c (st0_7 t) (inOf m c).bv := fun d => by
    rw [h, owns_eq_rep]
  iintro ⟨%d, H⟩
  ihave H := (Entails.of_eq (e d)) $$ H
  iexact H
theorem leave_7 (c : Dev nD) (t : Fin cfg0.N) :
    (hold c (st0_7 t) (inOf m c).bv : sProp 𝕄) = owns (c : Thread nD τ) (st0_7 t) fullShare ((dats m 0 c).after 7 t) := by
  rw [show (dats m 0 c).after 7 t = (inOf m c).bv from blk_7 m c t, owns_eq_rep]
theorem arrive_8 (c : Dev nD) (t : Fin cfg0.N) :
    (iprop(∃ d, owns (c : Thread nD τ) (st0_8 t) fullShare ((dats m 0 c).before 8 t d)) : sProp 𝕄) ⊢ hold c (st0_8 t) (inOf m c).g1 := by
  have h : ∀ d, (dats m 0 c).before 8 t d = (inOf m c).g1 := fun d =>
    ((dats m 0 c).before_in_eq_fetched 8 rfl (fun _ => rfl) (fun _ _ _ => rfl) (fun t => rfl) t d).trans (blk_8 m c t)
  have e : ∀ d, (owns (c : Thread nD τ) (st0_8 t) fullShare ((dats m 0 c).before 8 t d) : sProp 𝕄) = hold c (st0_8 t) (inOf m c).g1 := fun d => by
    rw [h, owns_eq_rep]
  iintro ⟨%d, H⟩
  ihave H := (Entails.of_eq (e d)) $$ H
  iexact H
theorem leave_8 (c : Dev nD) (t : Fin cfg0.N) :
    (hold c (st0_8 t) (inOf m c).g1 : sProp 𝕄) = owns (c : Thread nD τ) (st0_8 t) fullShare ((dats m 0 c).after 8 t) := by
  rw [show (dats m 0 c).after 8 t = (inOf m c).g1 from blk_8 m c t, owns_eq_rep]
theorem arrive_9 (c : Dev nD) (t : Fin cfg0.N) :
    (iprop(∃ d, owns (c : Thread nD τ) (st0_9 t) fullShare ((dats m 0 c).before 9 t d)) : sProp 𝕄) ⊢ hold c (st0_9 t) (inOf m c).b1 := by
  have h : ∀ d, (dats m 0 c).before 9 t d = (inOf m c).b1 := fun d =>
    ((dats m 0 c).before_in_eq_fetched 9 rfl (fun _ => rfl) (fun _ _ _ => rfl) (fun t => rfl) t d).trans (blk_9 m c t)
  have e : ∀ d, (owns (c : Thread nD τ) (st0_9 t) fullShare ((dats m 0 c).before 9 t d) : sProp 𝕄) = hold c (st0_9 t) (inOf m c).b1 := fun d => by
    rw [h, owns_eq_rep]
  iintro ⟨%d, H⟩
  ihave H := (Entails.of_eq (e d)) $$ H
  iexact H
theorem leave_9 (c : Dev nD) (t : Fin cfg0.N) :
    (hold c (st0_9 t) (inOf m c).b1 : sProp 𝕄) = owns (c : Thread nD τ) (st0_9 t) fullShare ((dats m 0 c).after 9 t) := by
  rw [show (dats m 0 c).after 9 t = (inOf m c).b1 from blk_9 m c t, owns_eq_rep]
theorem arrive_10 (c : Dev nD) (t : Fin cfg0.N) :
    (iprop(∃ d, owns (c : Thread nD τ) (st0_10 t) fullShare ((dats m 0 c).before 10 t d)) : sProp 𝕄) ⊢ hold c (st0_10 t) (inOf m c).bo := by
  have h : ∀ d, (dats m 0 c).before 10 t d = (inOf m c).bo := fun d =>
    ((dats m 0 c).before_in_eq_fetched 10 rfl (fun _ => rfl) (fun _ _ _ => rfl) (fun t => rfl) t d).trans (blk_10 m c t)
  have e : ∀ d, (owns (c : Thread nD τ) (st0_10 t) fullShare ((dats m 0 c).before 10 t d) : sProp 𝕄) = hold c (st0_10 t) (inOf m c).bo := fun d => by
    rw [h, owns_eq_rep]
  iintro ⟨%d, H⟩
  ihave H := (Entails.of_eq (e d)) $$ H
  iexact H
theorem leave_10 (c : Dev nD) (t : Fin cfg0.N) :
    (hold c (st0_10 t) (inOf m c).bo : sProp 𝕄) = owns (c : Thread nD τ) (st0_10 t) fullShare ((dats m 0 c).after 10 t) := by
  rw [show (dats m 0 c).after 10 t = (inOf m c).bo from blk_10 m c t, owns_eq_rep]
theorem arrive_11 (c : Dev nD) (t : Fin cfg0.N) :
    (iprop(∃ d, owns (c : Thread nD τ) (st0_11 t) fullShare ((dats m 0 c).before 11 t d)) : sProp 𝕄) ⊢ hold c (st0_11 t) (inOf m c).g2 := by
  have h : ∀ d, (dats m 0 c).before 11 t d = (inOf m c).g2 := fun d =>
    ((dats m 0 c).before_in_eq_fetched 11 rfl (fun _ => rfl) (fun _ _ _ => rfl) (fun t => rfl) t d).trans (blk_11 m c t)
  have e : ∀ d, (owns (c : Thread nD τ) (st0_11 t) fullShare ((dats m 0 c).before 11 t d) : sProp 𝕄) = hold c (st0_11 t) (inOf m c).g2 := fun d => by
    rw [h, owns_eq_rep]
  iintro ⟨%d, H⟩
  ihave H := (Entails.of_eq (e d)) $$ H
  iexact H
theorem leave_11 (c : Dev nD) (t : Fin cfg0.N) :
    (hold c (st0_11 t) (inOf m c).g2 : sProp 𝕄) = owns (c : Thread nD τ) (st0_11 t) fullShare ((dats m 0 c).after 11 t) := by
  rw [show (dats m 0 c).after 11 t = (inOf m c).g2 from blk_11 m c t, owns_eq_rep]
theorem arrive_12 (c : Dev nD) (t : Fin cfg0.N) :
    (iprop(∃ d, owns (c : Thread nD τ) (st0_12 t) fullShare ((dats m 0 c).before 12 t d)) : sProp 𝕄) ⊢ hold c (st0_12 t) (inOf m c).b2 := by
  have h : ∀ d, (dats m 0 c).before 12 t d = (inOf m c).b2 := fun d =>
    ((dats m 0 c).before_in_eq_fetched 12 rfl (fun _ => rfl) (fun _ _ _ => rfl) (fun t => rfl) t d).trans (blk_12 m c t)
  have e : ∀ d, (owns (c : Thread nD τ) (st0_12 t) fullShare ((dats m 0 c).before 12 t d) : sProp 𝕄) = hold c (st0_12 t) (inOf m c).b2 := fun d => by
    rw [h, owns_eq_rep]
  iintro ⟨%d, H⟩
  ihave H := (Entails.of_eq (e d)) $$ H
  iexact H
theorem leave_12 (c : Dev nD) (t : Fin cfg0.N) :
    (hold c (st0_12 t) (inOf m c).b2 : sProp 𝕄) = owns (c : Thread nD τ) (st0_12 t) fullShare ((dats m 0 c).after 12 t) := by
  rw [show (dats m 0 c).after 12 t = (inOf m c).b2 from blk_12 m c t, owns_eq_rep]
theorem arrive_13 (c : Dev nD) (t : Fin cfg0.N) :
    (iprop(∃ d, owns (c : Thread nD τ) (st0_13 t) fullShare ((dats m 0 c).before 13 t d)) : sProp 𝕄) ⊢ hold c (st0_13 t) (inOf m c).bf1 := by
  have h : ∀ d, (dats m 0 c).before 13 t d = (inOf m c).bf1 := fun d =>
    ((dats m 0 c).before_in_eq_fetched 13 rfl (fun _ => rfl) (fun _ _ _ => rfl) (fun t => rfl) t d).trans (blk_13 m c t)
  have e : ∀ d, (owns (c : Thread nD τ) (st0_13 t) fullShare ((dats m 0 c).before 13 t d) : sProp 𝕄) = hold c (st0_13 t) (inOf m c).bf1 := fun d => by
    rw [h, owns_eq_rep]
  iintro ⟨%d, H⟩
  ihave H := (Entails.of_eq (e d)) $$ H
  iexact H
theorem leave_13 (c : Dev nD) (t : Fin cfg0.N) :
    (hold c (st0_13 t) (inOf m c).bf1 : sProp 𝕄) = owns (c : Thread nD τ) (st0_13 t) fullShare ((dats m 0 c).after 13 t) := by
  rw [show (dats m 0 c).after 13 t = (inOf m c).bf1 from blk_13 m c t, owns_eq_rep]
theorem arrive_14 (c : Dev nD) (t : Fin cfg0.N) :
    (iprop(∃ d, owns (c : Thread nD τ) (st0_14 t) fullShare ((dats m 0 c).before 14 t d)) : sProp 𝕄) ⊢ hold c (st0_14 t) (inOf m c).bf2 := by
  have h : ∀ d, (dats m 0 c).before 14 t d = (inOf m c).bf2 := fun d =>
    ((dats m 0 c).before_in_eq_fetched 14 rfl (fun _ => rfl) (fun _ _ _ => rfl) (fun t => rfl) t d).trans (blk_14 m c t)
  have e : ∀ d, (owns (c : Thread nD τ) (st0_14 t) fullShare ((dats m 0 c).before 14 t d) : sProp 𝕄) = hold c (st0_14 t) (inOf m c).bf2 := fun d => by
    rw [h, owns_eq_rep]
  iintro ⟨%d, H⟩
  ihave H := (Entails.of_eq (e d)) $$ H
  iexact H
theorem leave_14 (c : Dev nD) (t : Fin cfg0.N) :
    (hold c (st0_14 t) (inOf m c).bf2 : sProp 𝕄) = owns (c : Thread nD τ) (st0_14 t) fullShare ((dats m 0 c).after 14 t) := by
  rw [show (dats m 0 c).after 14 t = (inOf m c).bf2 from blk_14 m c t, owns_eq_rep]

/-- The fifteen read windows at point `t`. -/
def winsT (c : Dev nD) (t : Fin cfg0.N) : sProp 𝕄 := wins (st0_0 t) (st0_1 t) (st0_2 t) (st0_3 t) (st0_4 t) (st0_5 t) (st0_6 t) (st0_7 t) (st0_8 t) (st0_9 t) (st0_10 t) (st0_11 t) (st0_12 t) (st0_13 t) (st0_14 t) c (inOf m c)
/-- The output window's buffer, at whatever its last point left. -/
def outIn (c : Dev nD) (t : Fin cfg0.N) : sProp 𝕄 := iprop(∃ d, owns (c : Thread nD τ) (st0_15 t) fullShare ((dats m 0 c).before 15 t d))
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ outIn m c t)
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (dats m 0 c).leavesExact 15 t)

/-- The read windows, gathered and given back. -/
theorem pre_eq (c : Dev nD) (t : Fin cfg0.N) : bodyPre m c t ⊢ (iprop((dats m 0 c).Φ t.castSucc ∗ (dats m 0 c).owesAt () t.castSucc ∗ winsT m c t ∗ outIn m c t) : sProp 𝕄) := by
  unfold bodyPre winsT wins
  iintro ⟨HΦ, HW, H0, H1, H2, H3, H4, H5, H6, H7, H8, H9, H10, H11, H12, H13, H14, HO⟩
  ihave H0 := (arrive_0 m c t) $$ H0
  ihave H1 := (arrive_1 m c t) $$ H1
  ihave H2 := (arrive_2 m c t) $$ H2
  ihave H3 := (arrive_3 m c t) $$ H3
  ihave H4 := (arrive_4 m c t) $$ H4
  ihave H5 := (arrive_5 m c t) $$ H5
  ihave H6 := (arrive_6 m c t) $$ H6
  ihave H7 := (arrive_7 m c t) $$ H7
  ihave H8 := (arrive_8 m c t) $$ H8
  ihave H9 := (arrive_9 m c t) $$ H9
  ihave H10 := (arrive_10 m c t) $$ H10
  ihave H11 := (arrive_11 m c t) $$ H11
  ihave H12 := (arrive_12 m c t) $$ H12
  ihave H13 := (arrive_13 m c t) $$ H13
  ihave H14 := (arrive_14 m c t) $$ H14
  iframe
theorem post_eq (c : Dev nD) (t : Fin cfg0.N) : (iprop((dats m 0 c).Φ t.succ ∗ (dats m 0 c).owesAt () t.succ ∗ winsT m c t ∗ (dats m 0 c).leavesExact 15 t) : sProp 𝕄) ⊢ bodyPost m c t := by
  unfold bodyPost winsT wins
  rw [← leave_0 m c t, ← leave_1 m c t, ← leave_2 m c t, ← leave_3 m c t, ← leave_4 m c t, ← leave_5 m c t, ← leave_6 m c t, ← leave_7 m c t, ← leave_8 m c t, ← leave_9 m c t, ← leave_10 m c t, ← leave_11 m c t, ← leave_12 m c t, ← leave_13 m c t, ← leave_14 m c t]
  iintro ⟨HΦ, HW, ⟨H0, H1, H2, H3, H4, H5, H6, H7, H8, H9, H10, H11, H12, H13, H14⟩, HO⟩
  iframe

/-- A point that leaves the output window alone, from the run of its body. -/
theorem point_of (c : Dev nD) (t : Fin cfg0.N) (P Q : sProp 𝕄)
    (hP : stAt c (inOf m c) t.castSucc.val = P) (hQ : stAt c (inOf m c) t.succ.val = Q)
    (hi : cfg0.idle 15 (cfg0.grid.coords t) = true) (hf : (cfg0.win 15).flush t = false)
    (run : ∀ (W : Waits sig Unit) (K : PUnit → sProp 𝕄),
      iprop(winsT m c t ∗ P ∗ owes (c : Thread nD τ) 0 W ∗ (iprop(winsT m c t ∗ Q ∗ (∃ W', owes (c : Thread nD τ) 0 W')) -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  refine triple_restated (Q := fun _ => iprop((dats m 0 c).Φ t.succ ∗ (dats m 0 c).owesAt () t.succ ∗ winsT m c t ∗ (dats m 0 c).leavesExact 15 t)) ?_ rfl (pre_eq m c t) (fun _ => post_eq m c t)
  rw [(dats m 0 c).leavesExact_idle 15 t hi hf]
  rw [show (dats m 0 c).Φ t.castSucc = iprop(stAt c (inOf m c) t.castSucc.val ∗ ∃ r, prngReg c r) from rfl,
    show (dats m 0 c).Φ t.succ = iprop(stAt c (inOf m c) t.succ.val ∗ ∃ r, prngReg c r) from rfl, hP, hQ]
  unfold Dat.owesAt Pipeline.owesWithin outIn
  rw [show (dats m 0 c).owed t.castSucc = 0 from rfl, show (dats m 0 c).owed t.succ = 0 from rfl]
  iintro ⟨⟨HS, Hg⟩, ⟨%W, -, HW⟩, Hw, HO⟩
  iapply run W _
  isplitl [Hw]; · iexact Hw
  isplitl [HS]; · iexact HS
  isplitl [HW]; · iexact HW
  iintro ⟨Hw, HS, ⟨%W', HW'⟩⟩
  isplitl [HS Hg]
  · iframe
  isplitl [HW']
  · iexists W'; isplitr; · ipureintro; exact fun _ _ => Or.inl trivial
    iexact HW'
  iframe

/-- The last point, whose run stores the result. -/
theorem point_last (c : Dev nD)
    (run : ∀ (W : Waits sig Unit) (K : PUnit → sProp 𝕄),
      iprop(winsT m c t0_8 ∗ st8 c (inOf m c) ∗ anyAt F c (st0_15 t0_8) ∗ owes (c : Thread nD τ) 0 W
          ∗ (iprop(winsT m c t0_8 ∗ st9 c (inOf m c) ∗ hold c (st0_15 t0_8) (outV (inOf m c)) ∗ (∃ W', owes (c : Thread nD τ) 0 W')) -∗ K ⟨⟩))
        ⊢ wp frame (wpE (defs₀ (F := F)) Variants.none c none) Set.univ (bodyAt0 t0_8) K) :
    bodyPre m c t0_8 ⊢ wp frame (wpE (defs₀ (F := F)) Variants.none c none) Set.univ (bodyAt0 t0_8) (fun _ => bodyPost m c t0_8) := by
  refine triple_restated (Q := fun _ => iprop((dats m 0 c).Φ t0_8.succ ∗ (dats m 0 c).owesAt () t0_8.succ ∗ winsT m c t0_8 ∗ (dats m 0 c).leavesExact 15 t0_8)) ?_ rfl (pre_eq m c t0_8) (fun _ => post_eq m c t0_8)
  have hl : ((dats m 0 c).leavesExact 15 t0_8 : sProp 𝕄) = hold c (st0_15 t0_8) (outV (inOf m c)) := by
    unfold Dat.leavesExact
    rw [show cfg0.idle 15 (cfg0.grid.coords t0_8) = false from by decide +kernel]
    exact owns_eq_rep _ _ _ _
  rw [hl]
  rw [show (dats m 0 c).Φ t0_8.castSucc = iprop(st8 c (inOf m c) ∗ ∃ r, prngReg c r) from rfl,
    show (dats m 0 c).Φ t0_8.succ = iprop(st9 c (inOf m c) ∗ ∃ r, prngReg c r) from rfl]
  unfold Dat.owesAt Pipeline.owesWithin outIn
  rw [show (dats m 0 c).owed t0_8.castSucc = 0 from rfl, show (dats m 0 c).owed t0_8.succ = 0 from rfl]
  iintro ⟨⟨HS, Hg⟩, ⟨%W, -, HW⟩, Hw, ⟨%d, HO⟩⟩
  ihave HO := (Entails.of_eq (owns_eq_rep _ _ _ _)) $$ HO
  ihave HO := (anyAt_of c (st0_15 t0_8) _) $$ HO
  iapply run W _
  isplitl [Hw]; · iexact Hw
  isplitl [HS]; · iexact HS
  isplitl [HO]; · iexact HO
  isplitl [HW]; · iexact HW
  iintro ⟨Hw, HS, HO, ⟨%W', HW'⟩⟩
  isplitl [HS Hg]
  · iframe
  isplitl [HW']
  · iexists W'; isplitr; · ipureintro; exact fun _ _ => Or.inl trivial
    iexact HW'
  iframe

theorem sound_body (c : Dev nD) (t : Fin cfg0.N) :
    bodyPre m c t ⊢ wp frame (wpE (defs₀ (F := F)) Variants.none c none) Set.univ (bodyAt0 t) (fun _ => bodyPost m c t) := by
  rcases fin_N0 t with rfl | rfl | rfl | rfl | rfl | rfl | rfl | rfl | rfl
  · exact point_of m c t0_0 (st0 c _) (st1 c _) rfl rfl (by decide +kernel) (by decide +kernel) (fun W K => run0 _ _ _ _ _ _ _ _ _ _ _ _ _ _ _ _ _ _ _ _ _ _ _ _ _ _ _ _ _ _ _ _ c _ W K)
  · exact point_of m c t0_1 (st1 c _) (stB c _ 1) rfl rfl (by decide +kernel) (by decide +kernel) (fun W K => run1 _ _ _ _ _ _ _ _ _ _ _ _ _ _ _ _ _ _ _ _ _ _ _ _ _ _ _ _ _ _ _ _ c _ W K)
  · exact point_of m c t0_2 (stB c _ 1) (stB c _ 2) rfl rfl (by decide +kernel) (by decide +kernel) (fun W K => run2 _ _ _ _ _ _ _ _ _ _ _ _ _ _ _ _ _ _ _ _ _ _ _ _ _ _ _ _ _ _ _ _ c _ W K)
  · exact point_of m c t0_3 (stB c _ 2) (stB c _ 3) rfl rfl (by decide +kernel) (by decide +kernel) (fun W K => run3 _ _ _ _ _ _ _ _ _ _ _ _ _ _ _ _ _ _ _ _ _ _ _ _ _ _ _ _ _ _ _ _ c _ W K)
  · exact point_of m c t0_4 (stB c _ 3) (stB c _ 4) rfl rfl (by decide +kernel) (by decide +kernel) (fun W K => run4 _ _ _ _ _ _ _ _ _ _ _ _ _ _ _ _ _ _ _ _ _ _ _ _ _ _ _ _ _ _ _ _ c _ W K)
  · exact point_of m c t0_5 (stB c _ 4) (st6 c _) rfl rfl (by decide +kernel) (by decide +kernel) (fun W K => run5 _ _ _ _ _ _ _ _ _ _ _ _ _ _ _ _ _ _ _ _ _ _ _ _ _ _ _ _ _ _ _ _ c _ W K)
  · exact point_of m c t0_6 (st6 c _) (st7 c _) rfl rfl (by decide +kernel) (by decide +kernel) (fun W K => run6 _ _ _ _ _ _ _ _ _ _ _ _ _ _ _ _ _ _ _ _ _ _ _ _ _ _ _ _ _ _ _ _ c _ W K)
  · exact point_of m c t0_7 (st7 c _) (st8 c _) rfl rfl (by decide +kernel) (by decide +kernel) (fun W K => run7 _ _ _ _ _ _ _ _ _ _ _ _ _ _ _ _ _ _ _ _ _ _ _ _ _ _ _ _ _ _ _ _ c _ W K)
  · exact point_last m c (fun W K => run8 _ _ _ _ _ _ _ _ _ _ _ _ _ _ _ _ _ _ _ _ _ _ _ _ _ _ _ _ _ _ _ _ c _ W K)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.KI.Frame.lean ====
/-
  The program's run from any memory: its result, its arguments unchanged, its cells at rest.
-/
module

public import proofs.«01_k».proof.Proof.KI.Body
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The whole program runs, and ends with its arrays as the data say, and every cell at rest. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := fun _ _ => rfl)
    (hin := fun c => start_in m c) (hout := fun c => end_out m c)

/-- The result array holds what the last point stores, which is the whole array. -/
theorem result (c : Dev nD) : (dats m 0 c).arrAt 15 cfg0.N = outV (inOf m c) := by
  let G : Buf (Elt F) ((c : Thread nD τ).loc main_v19) := outV (inOf m c)
  have hr : ∀ t : Fin cfg0.N, ((cfg0.win 15).blk t).view.read (Elt F) G = G := fun t => View.readAt_full (Memref.whole main_v19).view G _
  have h8 : ∀ t : Fin cfg0.N, (dats m 0 c).flushed 15 t = ((cfg0.win 15).blk t).view.read (Elt F) G := fun t => (hr t).symm
  funext i
  refine (dats m 0 c).arrAt_apply_of_mem 15 G (fun t _ => h8 t) 9 t0_8 i (by decide) ((flush0_15 t0_8).mpr rfl) ?_
  have hs : ((cfg0.win 15).blk t0_8).view.set = _ := View.set_slice_whole main_v19 _
  rw [hs]
  refine Rect.mem_set_unit.mpr fun a => ?_
  fin_cases a
  · exact ⟨Nat.zero_le _, (i 0).isLt⟩
  · exact ⟨Nat.zero_le _, (i 1).isLt⟩

/-- What the run leaves: the result, the arguments as they were, the cells at rest. -/
theorem run_all : θ_run defs (onTc (τ := τ) (main (F := F))) ⟨m, fun _ => 0, ρ⟩ (fun r => (∀ c : Dev nD,
      r.2.mem ((c.tc : Thread nD τ).loc main_v19) = outV (inOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => ⟨((h.1 c).1 15).trans (result m c),
      ((h.1 c).1 0).trans (((dats m 0 c).arrAt_in 0 rfl _).trans (V_main_arg0 m c)),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c)⟩, h.2⟩)
    (run_main m ρ)

/-- The frame: the arguments unchanged and every cell at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => (h.1 c).2, h.2⟩) (run_all m ρ)

end Cert.KernelIdeal.Hand

end
-- ==== Proof.Value.Spec.lean ====
/-
  The layer's mathematics over the extended reals, one entry at a time: what both programs are read down to.
-/
module

public import Idealize.ShloMosaic.Lib.Pointwise

@[expose] public section

noncomputable section

namespace Cert.Spec

open Idealize.ShloMosaic

/-- The constants both programs carry, as the extended reals their patterns denote: the row length 768, the two small
    numbers that keep a division away from zero, and minus infinity. -/
def c768 : EReal := Ideal.ofBits .f32 0x44400000#32
def epsLn : EReal := Ideal.ofBits .f32 0x3727C5AC#32
def epsSm : EReal := Ideal.ofBits .f32 0x0DA24260#32
def ninf : EReal := Ideal.ofBits .f32 0xFF800000#32

/-- A row's mean over its 768 entries. -/
def mean (x : Fin 768 → EReal) : EReal := Ideal.div (∑ k, x k) c768

/-- A row's layer norm at one entry. -/
def ln (x g b : Fin 768 → EReal) (l : Fin 768) : EReal :=
  Ideal.div (x l - mean x) (Ideal.sqrt (Ideal.div (∑ k, (x k - mean x) * (x k - mean x)) c768 + epsLn)) * g l + b l

/-- An affine map of a row at one entry. -/
def lin {K N : ℕ} (x : Fin K → EReal) (W : Fin K → Fin N → EReal) (b : Fin N → EReal) (l : Fin N) : EReal := (∑ k, x k * W k l) + b l

/-- The weights of a row of scores before they are divided by their sum. -/
def wgt (s : Fin 1024 → EReal) (k : Fin 1024) : EReal := Ideal.exp (s k - Finset.univ.fold max ninf s)

/-- The mean of `v` under the weights `w`. -/
def avg (w v : Fin 1024 → EReal) : EReal := ∑ k, Ideal.div (w k) (max (∑ k', w k') epsSm) * v k

/-- Half of `t` times one plus the error function at `t / √2`. -/
def gelu (t : EReal) : EReal :=
  Ideal.ofBits .f32 0x3F000000#32 * t * (1 + Ideal.erf (t * Ideal.ofBits .f32 0x3F3504F3#32))

/-- The layer's arguments; of the grid, the two coordinates of each point as numbers. -/
structure Args where
  x : Fin 1024 → Fin 768 → EReal
  gx : Fin 1024 → EReal
  gy : Fin 1024 → EReal
  Wq : Fin 768 → Fin 768 → EReal
  bq : Fin 768 → EReal
  Wk : Fin 768 → Fin 768 → EReal
  bk : Fin 768 → EReal
  Wv : Fin 768 → Fin 768 → EReal
  bv : Fin 768 → EReal
  Wo : Fin 768 → Fin 768 → EReal
  bo : Fin 768 → EReal
  g1 : Fin 768 → EReal
  b1 : Fin 768 → EReal
  g2 : Fin 768 → EReal
  b2 : Fin 768 → EReal
  W1 : Fin 768 → Fin 3072 → EReal
  bf1 : Fin 3072 → EReal
  W2 : Fin 3072 → Fin 768 → EReal
  bf2 : Fin 768 → EReal

variable (A : Args)

/-- The first layer norm, and the queries, keys and values of a row. -/
def h (r : Fin 1024) : Fin 768 → EReal := ln (A.x r) A.g1 A.b1
def q (r : Fin 1024) : Fin 768 → EReal := lin (h A r) A.Wq A.bq
def k (r : Fin 1024) : Fin 768 → EReal := lin (h A r) A.Wk A.bk
def v (r : Fin 1024) : Fin 768 → EReal := lin (h A r) A.Wv A.bv

/-- Points `r` and `j` are neighbours: two different points no further than 2 apart along either axis. -/
def near (r j : Fin 1024) : Prop :=
  FloatOps.absf (F := Ideal) (φ := .f32) (A.gx r - A.gx j) ≤ Ideal.ofBits .f32 0x40000000#32
    ∧ FloatOps.absf (F := Ideal) (φ := .f32) (A.gy r - A.gy j) ≤ Ideal.ofBits .f32 0x40000000#32 ∧ r ≠ j

open Classical in
/-- A row's scores, minus infinity away from its neighbours. -/
def score (r j : Fin 1024) : EReal :=
  if near A r j then (∑ e, q A r e * k A j e) * (((Real.sqrt 768)⁻¹ : ℝ) : EReal) else ninf

open Classical in
/-- What a row attends to: its neighbours, or itself where it has none. -/
def att (r : Fin 1024) (l : Fin 768) : EReal :=
  if ∃ j, near A r j then avg (wgt (score A r)) (fun j => v A j l) else v A r l

/-- The residual stream after the attention, its layer norm, and the layer's result. -/
def xn (r : Fin 1024) (l : Fin 768) : EReal := A.x r l + (∑ e, att A r e * A.Wo e l) + A.bo l
def h2 (r : Fin 1024) : Fin 768 → EReal := ln (xn A r) A.g2 A.b2
def hid (r : Fin 1024) (e : Fin 3072) : EReal := gelu (lin (h2 A r) A.W1 A.bf1 e)
def out (r : Fin 1024) (l : Fin 768) : EReal := xn A r l + lin (hid A r) A.W2 A.bf2 l

end Cert.Spec

end
-- ==== Proof.Value.Words.lean ====
/-
  Small facts the two readings share: bits as truth values, the mask's and the scale's constants, what a masked
  weight is, a sum over 3072 entries in four parts.
-/
module

public import proofs.«01_k».proof.Proof.Value.Spec
public import Idealize.ShloMosaic.PureOps.Ideal.Laws
public import Idealize.ShloMosaic.Lib.Routing.OpsOrder

@[expose] public section

set_option maxRecDepth 16384

noncomputable section

namespace Cert.Spec

open Idealize.ShloMosaic

/-- The three patterns whose values matter. -/
theorem c768_eq : c768 = ((768 : ℝ) : EReal) := by
  simp [c768, Ideal.ofBits, Ideal.ieee, -EReal.coe_mul]; norm_num
theorem ninf_eq : ninf = ⊥ := by simp [ninf, Ideal.ofBits, Ideal.ieee]
theorem sqrt_c768 : Ideal.sqrt c768 = ((Real.sqrt 768 : ℝ) : EReal) := by
  rw [c768_eq, Ideal.sqrt_coe, if_neg (by norm_num)]

/-- Dividing by the root of 768 is multiplying by its inverse. -/
theorem div_sqrt (x : EReal) : Ideal.div x (Ideal.sqrt c768) = x * (((Real.sqrt 768)⁻¹ : ℝ) : EReal) := by
  rw [sqrt_c768, Ideal.div_coe (by positivity), one_div]

/-- A nonnegative real distributes over a sum of extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A select on a bit is an `if` on what the bit says. -/
theorem select_iff {α : Type} {c : BitVec 1} {p : Prop} [Decidable p] (h : c = 1#1 ↔ p) (x y : α) :
    Scalar.select c x y = if p then x else y := by
  rcases BitVec.eq_zero_or_eq_one c with rfl | rfl
  · have hp : ¬ p := fun hp => absurd (h.2 hp) (by decide)
    rw [if_neg hp]; rfl
  · rw [if_pos (h.1 rfl)]; rfl

theorem andi_iff (a b : BitVec 1) : IntOp.andi a b = 1#1 ↔ a = 1#1 ∧ b = 1#1 := by
  rcases BitVec.eq_zero_or_eq_one a with rfl | rfl <;> rcases BitVec.eq_zero_or_eq_one b with rfl | rfl <;> decide
theorem not_iff' (a : BitVec 1) : ~~~a = 1#1 ↔ ¬ a = 1#1 := by
  rcases BitVec.eq_zero_or_eq_one a with rfl | rfl <;> decide
theorem ofBool_iff (p : Prop) [Decidable p] : BitVec.ofBool (decide p) = 1#1 ↔ p := by
  by_cases hp : p <;> simp [hp]

/-- Away from the neighbours a weight is zero. -/
theorem wgt_of_bot (s : Fin 1024 → EReal) (j : Fin 1024) (h : s j = ninf) : wgt s j = 0 := by
  rw [wgt, h, ninf_eq, sub_eq_add_neg, EReal.bot_add, Ideal.exp_bot]

/-- A sum over 3072 entries, 768 at a time. -/
theorem sum_four (f : Fin 3072 → EReal) :
    ∑ k, f k = (∑ k : Fin 768, f ⟨k.val, by omega⟩) + (∑ k : Fin 768, f ⟨768 + k.val, by omega⟩)
      + (∑ k : Fin 768, f ⟨1536 + k.val, by omega⟩) + (∑ k : Fin 768, f ⟨2304 + k.val, by omega⟩) := by
  have a1 := Fin.sum_univ_add (a := 2304) (b := 768) f
  have a2 := Fin.sum_univ_add (a := 1536) (b := 768) (fun i => f (Fin.castAdd 768 i))
  have a3 := Fin.sum_univ_add (a := 768) (b := 768) (fun i => f (Fin.castAdd 768 (Fin.castAdd 768 i)))
  rw [a1, a2, a3]
  rfl

end Cert.Spec

end
-- ==== Proof.Value.Ref.lean ====
/-
  The reference's terms, read at an index, are the mathematics of `Spec`.
-/
module

public import proofs.«01_k».proof.Proof.Gen.ReferenceIdeal.Run
public import proofs.«01_k».proof.Proof.Value.Words
public import Idealize.ShloMosaic.Lib.Pointwise
public import Idealize.ShloMosaic.Lib.Tactic.CleanTypes

@[expose] public section

set_option maxRecDepth 16384

noncomputable section

namespace Cert.ReferenceIdeal.Hand

open Cert.ReferenceIdeal Cert.ReferenceIdeal.Value
open Idealize.ShloMosaic Idealize.ShloMosaic.TcCoe
open Cert.Spec (Args c768 epsLn epsSm ninf)

variable (V0 : Valuation τ sig (Elt Ideal))

/-- One argument array, at its own shape. -/
abbrev mat (s : Shape) (φ : FTy) : Type := FVec Ideal s φ

/-- The layer's arguments as the reference finds them. -/
def args : Args where
  x r l := (V0 (Proc.devRef .tc main_arg0) : mat S1024x768 .f32) (ix2 r l)
  gx r := FloatOps.sitofp (F := Ideal) .f32 ((V0 (Proc.devRef .tc main_arg1) : IVec S1024x2 32) (ix2 r 0))
  gy r := FloatOps.sitofp (F := Ideal) .f32 ((V0 (Proc.devRef .tc main_arg1) : IVec S1024x2 32) (ix2 r 1))
  Wq r l := (V0 (Proc.devRef .tc main_arg2) : mat S768x768 .f32) (ix2 r l)
  bq l := (V0 (Proc.devRef .tc main_arg3) : mat S768 .f32) (ix1 l)
  Wk r l := (V0 (Proc.devRef .tc main_arg4) : mat S768x768 .f32) (ix2 r l)
  bk l := (V0 (Proc.devRef .tc main_arg5) : mat S768 .f32) (ix1 l)
  Wv r l := (V0 (Proc.devRef .tc main_arg6) : mat S768x768 .f32) (ix2 r l)
  bv l := (V0 (Proc.devRef .tc main_arg7) : mat S768 .f32) (ix1 l)
  Wo r l := (V0 (Proc.devRef .tc main_arg8) : mat S768x768 .f32) (ix2 r l)
  bo l := (V0 (Proc.devRef .tc main_arg9) : mat S768 .f32) (ix1 l)
  g1 l := (V0 (Proc.devRef .tc main_arg10) : mat S768 .f32) (ix1 l)
  b1 l := (V0 (Proc.devRef .tc main_arg11) : mat S768 .f32) (ix1 l)
  g2 l := (V0 (Proc.devRef .tc main_arg12) : mat S768 .f32) (ix1 l)
  b2 l := (V0 (Proc.devRef .tc main_arg13) : mat S768 .f32) (ix1 l)
  W1 r l := (V0 (Proc.devRef .tc main_arg14) : mat S768x3072 .f32) (ix2 r l)
  bf1 l := (V0 (Proc.devRef .tc main_arg15) : mat S3072 .f32) (ix1 l)
  W2 r l := (V0 (Proc.devRef .tc main_arg16) : mat S3072x768 .f32) (ix2 r l)
  bf2 l := (V0 (Proc.devRef .tc main_arg17) : mat S768 .f32) (ix1 l)

/-- The named terms, each at its own shape. -/
def t23 : mat S1024x768 .f32 := res_main_v23 V0
def t35 : mat S1024x768 .f32 := res_main_v35 V0
def t68 : IVec S1024x1024 1 := res_main_v68 V0
def t74 : mat S1024x1024 .f32 := res_main_v74 V0
def t81 : mat S1024x1024 .f32 := res_main_v81 V0
def t96 : mat S1024x768 .f32 := res_main_v96 V0
def t124 : mat S1024x3072 .f32 := res_main_v124 V0

theorem t23_apply (r : Fin 1024) (l : Fin 768) : t23 V0 (ix2 r l) = Spec.h (args V0) r l := by
  unfold t23 res_main_v23 res_main_v5 res_main_v3
  clean_types
  pointwise
  rfl

theorem t35_apply (r : Fin 1024) (l : Fin 768) : t35 V0 (ix2 r l) = Spec.v (args V0) r l := by
  have e : t35 V0 (ix2 r l) = Spec.lin (fun k => t23 V0 (ix2 r k)) (args V0).Wv (args V0).bv l := by
    unfold t35 res_main_v35
    clean_types
    pointwise
    rfl
  rw [e]; simp only [t23_apply]; rfl

/-- The mask's bit says whether two points are neighbours. -/
theorem t68_apply (r j : Fin 1024) : t68 V0 (ix2 r j) = 1#1 ↔ Spec.near (args V0) r j := by
  have hne : IntOp.cmpi CmpIPredicate.eq (IntOp.addi (BitVec.ofNat 32 r.val) 0#32) (BitVec.ofNat 32 j.val) = 1#1 ↔ r = j := by
    have e : IntOp.cmpi CmpIPredicate.eq (IntOp.addi (BitVec.ofNat 32 r.val) 0#32) (BitVec.ofNat 32 j.val)
        = BitVec.ofBool (decide (r = j)) := by
      have hr := r.isLt
      have hj := j.isLt
      have h2 : (BitVec.ofNat 32 r.val + 0#32 = BitVec.ofNat 32 j.val) ↔ r = j := by
        rw [BitVec.add_zero]
        constructor
        · intro h
          have := congrArg BitVec.toNat h
          simp only [BitVec.toNat_ofNat] at this
          exact Fin.ext (by omega)
        · rintro rfl; rfl
      by_cases hrj : r = j
      · have := h2.2 hrj
        simp [IntOp.cmpi, IntOp.addi, hrj]
      · have := mt h2.1 hrj
        have hf : (BitVec.ofNat 32 r.val + 0#32 == BitVec.ofNat 32 j.val) = false := beq_eq_false_iff_ne.2 this
        show BitVec.ofBool (BitVec.ofNat 32 r.val + 0#32 == BitVec.ofNat 32 j.val) = _
        rw [hf, decide_eq_false hrj]
    rw [e, Spec.ofBool_iff]
  unfold t68 res_main_v68 res_main_v36
  clean_types
  pointwise
  rw [Spec.andi_iff, Spec.andi_iff, Spec.ofBool_iff, Spec.ofBool_iff, Spec.not_iff', hne, and_assoc]
  rfl

theorem t74_apply (r j : Fin 1024) : t74 V0 (ix2 r j) = Spec.score (args V0) r j := by
  classical
  have e : t74 V0 (ix2 r j) = Scalar.select (t68 V0 (ix2 r j))
      (Ideal.div (∑ e, Spec.lin (fun k => t23 V0 (ix2 r k)) (args V0).Wq (args V0).bq e * Spec.lin (fun k => t23 V0 (ix2 j k)) (args V0).Wk (args V0).bk e)
        (Ideal.sqrt c768)) ninf := by
    unfold t74 res_main_v74
    clean_types
    pointwise
    rfl
  rw [e, Spec.select_iff (t68_apply V0 r j), Spec.div_sqrt]
  simp only [t23_apply]
  unfold Spec.score
  congr 1

/-- A weight times its mask bit is the weight: it is zero where the bit is. -/
theorem t81_apply (r j : Fin 1024) : t81 V0 (ix2 r j) = Spec.wgt (Spec.score (args V0) r) j := by
  have e : t81 V0 (ix2 r j) = Spec.wgt (fun j => t74 V0 (ix2 r j)) j * FloatOps.uitofp (F := Ideal) .f32 (t68 V0 (ix2 r j)) := by
    unfold t81 res_main_v81
    clean_types
    pointwise
    rfl
  rw [e]
  simp only [t74_apply]
  by_cases hn : Spec.near (args V0) r j
  · rw [(t68_apply V0 r j).2 hn]
    have : FloatOps.uitofp (F := Ideal) .f32 (1#1 : BitVec 1) = (1 : EReal) := by
      simp [FloatOps.uitofp]
    rw [this, mul_one]
  · have hz : Spec.wgt (Spec.score (args V0) r) j = 0 := Spec.wgt_of_bot _ _ (if_neg hn)
    show Spec.wgt (Spec.score (args V0) r) j * _ = _
    rw [hz, zero_mul]

theorem t96_apply (r : Fin 1024) (l : Fin 768) : t96 V0 (ix2 r l) = Spec.xn (args V0) r l := by
  classical
  have e : t96 V0 (ix2 r l) = (args V0).x r l + (∑ e, Scalar.select (Finset.univ.fold IntOp.ori (0#1) (fun j => t68 V0 (ix2 r j)))
      (Spec.avg (fun j => t81 V0 (ix2 r j)) (fun j => t35 V0 (ix2 j e))) (t35 V0 (ix2 r e)) * (args V0).Wo e l) + (args V0).bo l := by
    unfold t96 res_main_v96
    clean_types
    pointwise
    rfl
  have hb : Finset.univ.fold IntOp.ori (0#1) (fun j => t68 V0 (ix2 r j)) = 1#1 ↔ ∃ j, Spec.near (args V0) r j := by
    rw [Routing.fold_ori]
    simp only [t68_apply, Finset.mem_univ, true_and]
  rw [e]
  simp only [Spec.select_iff hb, t81_apply, t35_apply]
  unfold Spec.xn Spec.att
  congr! 4

theorem t124_apply (r : Fin 1024) (e : Fin 3072) : t124 V0 (ix2 r e) = Spec.lin (Spec.h2 (args V0) r) (args V0).W1 (args V0).bf1 e := by
  have e : t124 V0 (ix2 r e) = Spec.lin (Spec.ln (fun k => t96 V0 (ix2 r k)) (args V0).g2 (args V0).b2) (args V0).W1 (args V0).bf1 e := by
    unfold t124 res_main_v124 res_main_v102 res_main_v100
    clean_types
    pointwise
    rfl
  rw [e]; simp only [t96_apply]; rfl

/-- The reference's result, at its own shape. -/
def tOut : mat S1024x768 .f32 :=
  addf (t96 V0) (addf (Host.dotGeneral (φ₂ := .f32) dot_S1024x3072_S3072x768_S1024x768_1_0_0_1_n_n none (mulf (mulf (broadcastInDim S1024x3072 ![] Gen.bcast_S_S1024x3072 (constant S_ .f32 0x3F000000#32)) (t124 V0)) (Host.erfc (mulf (Host.negf (t124 V0)) (broadcastInDim S1024x3072 ![] Gen.bcast_S_S1024x3072 (constant S_ .f32 0x3F3504F3#32))))) (V0 (Proc.devRef .tc main_arg16) : mat S3072x768 .f32)) (broadcastInDim S1024x768 ![0, 1] Gen.bcast_S1x768_S1024x768_0_1 (broadcastInDim S1x768 ![1] Gen.bcast_S768_S1x768_1 (V0 (Proc.devRef .tc main_arg17) : mat S768 .f32))))

/-- Half of `t` times the complementary error function at `-t / √2` is `gelu`. -/
theorem gelu_erfc (t : EReal) :
    Ideal.ofBits .f32 0x3F000000#32 * t * Ideal.erfc (-t * Ideal.ofBits .f32 0x3F3504F3#32) = Spec.gelu t := by
  rw [neg_mul, Ideal.erfc_neg, Spec.gelu]

theorem tOut_apply (r : Fin 1024) (l : Fin 768) : tOut V0 (ix2 r l) = Spec.out (args V0) r l := by
  have e : tOut V0 (ix2 r l) = t96 V0 (ix2 r l) + Spec.lin (fun e : Fin 3072 => Ideal.ofBits .f32 0x3F000000#32 * t124 V0 (ix2 r e)
      * Ideal.erfc (-(t124 V0 (ix2 r e)) * Ideal.ofBits .f32 0x3F3504F3#32)) (args V0).W2 (args V0).bf2 l := by
    unfold tOut
    clean_types
    pointwise
    rfl
  rw [e]; simp only [gelu_erfc, t124_apply, t96_apply]; rfl

end Cert.ReferenceIdeal.Hand

end
-- ==== Proof.Value.Pay.lean ====
/-
  The kernel's payload functions, read at an index.
-/
module

public import proofs.«01_k».proof.Proof.KI.Values
public import proofs.«01_k».proof.Proof.Value.Words
public import Idealize.ShloMosaic.Lib.Pointwise
public import Idealize.ShloMosaic.PureOps.IdealRules

@[expose] public section

set_option maxRecDepth 16384

noncomputable section

namespace Cert.KernelIdeal.Hand

open Cert.KernelIdeal Cert.KernelIdeal.Gen
open Idealize.ShloMosaic

/-- An array of numbers, and a row vector's or a matrix's entries. -/
abbrev arr (s : Shape) : Type := FVec Ideal s .f32
def row {n : ℕ} (b : arr ⟨2, ![1, n]⟩) (l : Fin n) : EReal := b (ix2 0 l)
def ent {n k : ℕ} (W : arr ⟨2, ![n, k]⟩) (r : Fin n) (l : Fin k) : EReal := W (ix2 r l)

/-- What the two named constants stand for. -/
theorem scale_eq : Named.named (F := Ideal) (φ := .f32) κ "scale" 0x3D13CD3A#32 = (((Real.sqrt 768)⁻¹ : ℝ) : EReal) :=
  IdealRules.named_const.ideal_named_scalar _ _ _ _ rfl
theorem neg_eq : Named.named (F := Ideal) (φ := .bf16) κ "neg" 0xFF7F#16 = Spec.ninf :=
  (IdealRules.named_const.ideal_named_scalar _ _ _ _ rfl).trans Spec.ninf_eq.symm

theorem pay5_apply (x : arr S1024x768) (g b : arr S1x768) (r : Fin 1024) (l : Fin 768) :
    k0_pay5 (F := Ideal) x g b (ix2 r l) = Spec.ln (ent x r) (row g) (row b) l := by
  pointwise [k0_pay5]
  rfl

theorem pay2_apply (x : arr S256x768) (g b : arr S1x768) (r : Fin 256) (l : Fin 768) :
    k0_pay2 (F := Ideal) x g b (ix2 r l) = Spec.ln (ent x r) (row g) (row b) l := by
  pointwise [k0_pay2]
  rfl

theorem pay1_apply (x : arr S256x768) (r : Fin 256) (l : Fin 768) : k0_pay1 (F := Ideal) x (ix2 r l) = x (ix2 r l) := by
  pointwise [k0_pay1]

theorem pay6_apply (h : arr S1024x768) (W : arr S768x768) (b : arr S1x768) (r : Fin 1024) (l : Fin 768) :
    k0_pay6 (F := Ideal) h W b (ix2 r l) = Spec.lin (ent h r) (ent W) (row b) l * (((Real.sqrt 768)⁻¹ : ℝ) : EReal) := by
  rw [← scale_eq]
  pointwise [k0_pay6]
  rfl

theorem pay7_apply (h : arr S1024x768) (W : arr S768x768) (b : arr S1x768) (r : Fin 1024) (l : Fin 768) :
    k0_pay7 (F := Ideal) h W b (ix2 r l) = Spec.lin (ent h r) (ent W) (row b) l := by
  pointwise [k0_pay7]
  rfl

theorem pay8_apply (h : arr S1024x768) (W : arr S768x768) (b : arr S1x768) (r : Fin 1024) (l : Fin 768) :
    k0_pay8 (F := Ideal) h W b (ix2 r l) = Spec.lin (ent h r) (ent W) (row b) l := by
  pointwise [k0_pay8]
  rfl

theorem pay10_apply (a : BitVec 32) (q : arr S256x768) (k : arr S1024x768) (xi yi : arr S256x1) (xr yr : arr S1x1024) (r : Fin 256) (j : Fin 1024) :
    k0_pay10 (F := Ideal) a q k xi yi xr yr (ix2 r j)
      = Scalar.select (k0_pay9 (F := Ideal) a xi yi xr yr (ix2 r j)) (∑ e, ent q r e * ent k j e) Spec.ninf := by
  rw [← neg_eq]
  pointwise [k0_pay10]
  rfl

/-- The row and column words of block `b` differ where the row and the column do. -/
theorem words_ne (b : Fin 4) (r : Fin 256) (j : Fin 1024) :
    IntOp.cmpi CmpIPredicate.ne (IntOp.addi (Scalar.muli (Scalar.subi (gw b) 1#32) 256#32) (BitVec.ofNat 32 r.val)) (BitVec.ofNat 32 j.val) = 1#1
      ↔ 256 * b.val + r.val ≠ j.val := by
  have hr := r.isLt
  have hj := j.isLt
  have hb := b.isLt
  have hw : (IntOp.addi (Scalar.muli (Scalar.subi (gw b) 1#32) 256#32) (BitVec.ofNat 32 r.val) : BitVec 32) = BitVec.ofNat 32 (256 * b.val + r.val) := by
    apply BitVec.eq_of_toNat_eq
    fin_cases b <;> simp [IntOp.addi, Scalar.muli, Scalar.subi, IntOp.muli, IntOp.subi, gw]
  rw [hw]
  have h2 : BitVec.ofNat 32 (256 * b.val + r.val) = BitVec.ofNat 32 j.val ↔ 256 * b.val + r.val = j.val := by
    constructor
    · intro h
      have := congrArg BitVec.toNat h
      simp only [BitVec.toNat_ofNat] at this
      omega
    · intro h; rw [h]
  show BitVec.ofBool (BitVec.ofNat 32 (256 * b.val + r.val) != BitVec.ofNat 32 j.val) = 1#1 ↔ _
  by_cases h : 256 * b.val + r.val = j.val
  · rw [h]; simp
  · have hne : (BitVec.ofNat 32 (256 * b.val + r.val) != BitVec.ofNat 32 j.val) = true := bne_iff_ne.2 (mt h2.1 h)
    rw [hne]; simp [h]

theorem pay9_apply (b : Fin 4) (xi yi : arr S256x1) (xr yr : arr S1x1024) (r : Fin 256) (j : Fin 1024) :
    k0_pay9 (F := Ideal) (gw b) xi yi xr yr (ix2 r j) = 1#1 ↔
      FloatOps.absf (F := Ideal) (φ := .f32) (xi (ix2 r 0) - xr (ix2 0 j)) ≤ Ideal.ofBits .f32 0x40000000#32
        ∧ FloatOps.absf (F := Ideal) (φ := .f32) (yi (ix2 r 0) - yr (ix2 0 j)) ≤ Ideal.ofBits .f32 0x40000000#32
        ∧ 256 * b.val + r.val ≠ j.val := by
  pointwise [k0_pay9]
  rw [Spec.andi_iff, Spec.ofBool_iff, words_ne, max_le_iff, and_assoc]

theorem pay11_apply (v : arr S1024x768) (m : IVec S256x1024 1) (s : arr S256x1024) (vb x : arr S256x768) (W : arr S768x768) (b : arr S1x768)
    (p : Prop) [Decidable p] (r : Fin 256) (hp : (∃ j, m (ix2 r j) = 1#1) ↔ p) (l : Fin 768) :
    k0_pay11 (F := Ideal) v m s vb x W b (ix2 r l) = ent x r l
      + (∑ e, (if p then Spec.avg (Spec.wgt (ent s r)) (fun j => ent v j e) else ent vb r e) * ent W e l) + row b l := by
  have hm : (0 : EReal) < Finset.univ.fold max Spec.ninf (fun j => Scalar.select (m (ix2 r j)) (1 : EReal) 0) ↔ p := by
    rw [← hp, Finset.lt_fold_max]
    constructor
    · rintro (h | ⟨j, -, h⟩)
      · rw [Spec.ninf_eq] at h; exact absurd h (by simp)
      · refine ⟨j, ?_⟩
        rcases BitVec.eq_zero_or_eq_one (m (ix2 r j)) with e | e
        · rw [e] at h; exact absurd h (lt_irrefl _)
        · exact e
    · rintro ⟨j, e⟩
      refine .inr ⟨j, Finset.mem_univ _, ?_⟩
      rw [e]; exact zero_lt_one
  simp only [← hm]
  pointwise [k0_pay11]
  congr! 4

theorem pay3_apply (h : arr S1024x768) (W : arr S768x768) (b : arr S1x768) (W' : arr S768x768) (r : Fin 1024) (l : Fin 768) :
    k0_pay3 (F := Ideal) h W b W' (ix2 r l) = ∑ e, Spec.gelu (Spec.lin (ent h r) (ent W) (row b) e) * ent W' e l := by
  pointwise [k0_pay3]
  rfl

theorem pay12_apply (h : arr S1024x768) (W : arr S768x768) (b : arr S1x768) (W' : arr S768x768) (f : arr S1024x768) (r : Fin 1024) (l : Fin 768) :
    k0_pay12 (F := Ideal) h W b W' f (ix2 r l) = ent f r l + ∑ e, Spec.gelu (Spec.lin (ent h r) (ent W) (row b) e) * ent W' e l := by
  pointwise [k0_pay12]
  rfl

theorem pay13_apply (h : arr S1024x768) (W : arr S768x768) (b : arr S1x768) (W' : arr S768x768) (f : arr S1024x768) (r : Fin 1024) (l : Fin 768) :
    k0_pay13 (F := Ideal) h W b W' f (ix2 r l) = ent f r l + ∑ e, Spec.gelu (Spec.lin (ent h r) (ent W) (row b) e) * ent W' e l := by
  pointwise [k0_pay13]
  rfl

theorem pay14_apply (h : arr S1024x768) (W : arr S768x768) (b : arr S1x768) (W' : arr S768x768) (x f : arr S1024x768) (r : Fin 1024) (l : Fin 768) :
    k0_pay14 (F := Ideal) h W b W' x f (ix2 r l) = ent x r l + ent f r l + ∑ e, Spec.gelu (Spec.lin (ent h r) (ent W) (row b) e) * ent W' e l := by
  pointwise [k0_pay14]
  rfl

theorem pay4_apply (x : arr S1024x768) (b : arr S1x768) (r : Fin 1024) (l : Fin 768) :
    k0_pay4 (F := Ideal) x b (ix2 r l) = ent x r l + row b l := by
  pointwise [k0_pay4]
  rfl

end Cert.KernelIdeal.Hand

end
-- ==== Proof.Value.Ker.lean ====
/-
  What the kernel leaves in its result, read at an index, is the mathematics of `Spec`.
-/
module

public import proofs.«01_k».proof.Proof.Value.Pay

@[expose] public section

set_option maxRecDepth 16384

noncomputable section

namespace Cert.KernelIdeal.Hand

open Cert.KernelIdeal Cert.KernelIdeal.Gen
open Idealize.ShloMosaic
open Idealize.ShloMosaic.VecWindow (window)

variable (I : In Ideal)

/-- The layer's arguments as the kernel's operands hold them. -/
def args : Spec.Args where
  x := ent I.x
  gx r := ent I.xi r 0
  gy r := ent I.yi r 0
  Wq := ent I.Wq
  bq := row I.bq
  Wk := ent I.Wk
  bk := row I.bk
  Wv := ent I.Wv
  bv := row I.bv
  Wo := ent I.Wo
  bo := row I.bo
  g1 := row I.g1
  b1 := row I.b1
  g2 := row I.g2
  b2 := row I.b2
  W1 := ent I.W1
  bf1 := row I.bf1
  W2 := ent I.W2
  bf2 := row I.bf2

theorem hV_apply (r : Fin 1024) (l : Fin 768) : hV I (ix2 r l) = Spec.h (args I) r l := pay5_apply ..
theorem qV_apply (r : Fin 1024) (l : Fin 768) : qV I (ix2 r l) = Spec.q (args I) r l * (((Real.sqrt 768)⁻¹ : ℝ) : EReal) := by
  refine (pay6_apply ..).trans ?_
  have : ent (hV I) r = Spec.h (args I) r := funext fun l => hV_apply I r l
  rw [this]; rfl
theorem kV_apply (r : Fin 1024) (l : Fin 768) : kV I (ix2 r l) = Spec.k (args I) r l := by
  refine (pay7_apply ..).trans ?_
  have : ent (hV I) r = Spec.h (args I) r := funext fun l => hV_apply I r l
  rw [this]; rfl
theorem vV_apply (r : Fin 1024) (l : Fin 768) : vV I (ix2 r l) = Spec.v (args I) r l := by
  refine (pay8_apply ..).trans ?_
  have : ent (hV I) r = Spec.h (args I) r := funext fun l => hV_apply I r l
  rw [this]; rfl

/-- Row `r` of block `b`, among all the rows. -/
def rowIx (b : Fin 4) (r : Fin 256) : Fin 1024 := ⟨256 * b.val + r.val, by omega⟩

/-- A window of a matrix, at an index. -/
theorem window_ix2 {n k n' k' : ℕ} (v : arr ⟨2, ![n, k]⟩) (o p : ℕ) (inb) (r : Fin n') (l : Fin k') (hr : o + r.val < n) (hl : p + l.val < k) :
    window v ![o, p] ![n', k'] inb (ix2 r l) = v (ix2 ⟨o + r.val, hr⟩ ⟨p + l.val, hl⟩) := by
  show v _ = v _
  congr 1
  funext a
  fin_cases a
  · apply Fin.ext
    show o + 1 * r.val = o + r.val
    omega
  · apply Fin.ext
    show p + 1 * l.val = p + l.val
    omega

theorem rowsOf_apply (b : Fin 4) (v : arr S1024x768) (r : Fin 256) (l : Fin 768) : rowsOf (F := Ideal) b v (ix2 r l) = v (ix2 (rowIx b r) l) :=
  (window_ix2 v (256 * b.val) 0 (rows_inb b) r l (by omega) (by omega)).trans (by congr 2; exact Fin.ext (Nat.zero_add _))
theorem colOf_apply (b : Fin 4) (v : arr S1024x1) (r : Fin 256) (l : Fin 1) : colOf (F := Ideal) b v (ix2 r l) = v (ix2 (rowIx b r) l) :=
  (window_ix2 v (256 * b.val) 0 (col_inb b) r l (by omega) (by omega)).trans (by congr 2; exact Fin.ext (Nat.zero_add _))

/-- The grid's coordinates are handed to the kernel twice, down a column and along a row. -/
def GridTwice : Prop := (∀ j : Fin 1024, row I.xr j = ent I.xi j 0) ∧ (∀ j : Fin 1024, row I.yr j = ent I.yi j 0)

variable {I}

theorem mask_iff (hg : GridTwice I) (b : Fin 4) (r : Fin 256) (j : Fin 1024) :
    k0_pay9 (F := Ideal) (gw b) (colOf b I.xi) (colOf b I.yi) I.xr I.yr (ix2 r j) = 1#1 ↔ Spec.near (args I) (rowIx b r) j := by
  have e1 : I.xr (ix2 0 j) = I.xi (ix2 j 0) := hg.1 j
  have e2 : I.yr (ix2 0 j) = I.yi (ix2 j 0) := hg.2 j
  have hn : 256 * b.val + r.val ≠ j.val ↔ rowIx b r ≠ j := by rw [Ne, Ne, Fin.ext_iff]; rfl
  rw [pay9_apply, colOf_apply, colOf_apply, e1, e2, hn]
  rfl

theorem score_eq (hg : GridTwice I) (b : Fin 4) (r : Fin 256) (j : Fin 1024) :
    k0_pay10 (F := Ideal) (gw b) (rowsOf b (qV I)) (kV I) (colOf b I.xi) (colOf b I.yi) I.xr I.yr (ix2 r j)
      = Spec.score (args I) (rowIx b r) j := by
  classical
  rw [pay10_apply, Spec.select_iff (mask_iff hg b r j)]
  unfold Spec.score
  congr 1
  rw [Spec.sum_mul_coe _ _ (by positivity)]
  refine Finset.sum_congr rfl fun e _ => ?_
  show rowsOf b (qV I) (ix2 r e) * kV I (ix2 j e) = _
  rw [rowsOf_apply, qV_apply, kV_apply, mul_right_comm]

theorem blkV_apply (hg : GridTwice I) (b : Fin 4) (r : Fin 256) (l : Fin 768) : blkV I b (ix2 r l) = Spec.xn (args I) (rowIx b r) l := by
  classical
  have hp : (∃ j, k0_pay9 (F := Ideal) (gw b) (colOf b I.xi) (colOf b I.yi) I.xr I.yr (ix2 r j) = 1#1) ↔ ∃ j, Spec.near (args I) (rowIx b r) j :=
    exists_congr fun j => mask_iff hg b r j
  refine (pay11_apply (vV I) _ _ (rowsOf b (vV I)) (rowsOf b I.x) I.Wo I.bo _ r hp l).trans ?_
  have hs : ent (k0_pay10 (F := Ideal) (gw b) (rowsOf b (qV I)) (kV I) (colOf b I.xi) (colOf b I.yi) I.xr I.yr) r = Spec.score (args I) (rowIx b r) :=
    funext fun j => score_eq hg b r j
  have hv : ∀ e j, ent (vV I) j e = Spec.v (args I) j e := fun e j => vV_apply I j e
  have hvb : ∀ e, ent (rowsOf b (vV I)) r e = Spec.v (args I) (rowIx b r) e := fun e => (rowsOf_apply b (vV I) r e).trans (vV_apply I _ e)
  have hx : ent (rowsOf b I.x) r l = (args I).x (rowIx b r) l := rowsOf_apply b I.x r l
  simp only [hs, hv, hvb, hx]
  unfold Spec.xn Spec.att
  congr! 4

/-- A row is row `r % 256` of block `r / 256`. -/
theorem rowIx_of (r : Fin 1024) : rowIx ⟨r.val / 256, by omega⟩ ⟨r.val % 256, by omega⟩ = r := Fin.ext (by show 256 * (r.val / 256) + r.val % 256 = r.val; omega)

theorem inBlk_ix2 (r : Fin 1024) (l : Fin 768) : inBlk (ix2 r l) = ix2 ⟨r.val % 256, by omega⟩ l := by
  funext a; fin_cases a <;> rfl

theorem xnV_apply (hg : GridTwice I) (r : Fin 1024) (l : Fin 768) : xnV I (ix2 r l) = Spec.xn (args I) r l := by
  show xnB I ⟨r.val / 256, _⟩ (inBlk (ix2 r l)) = _
  rw [inBlk_ix2]
  refine (pay1_apply ..).trans ?_
  rw [blkV_apply hg, rowIx_of]

theorem h2V_apply (hg : GridTwice I) (r : Fin 1024) (l : Fin 768) : h2V I (ix2 r l) = Spec.h2 (args I) r l := by
  show h2B I ⟨r.val / 256, _⟩ (inBlk (ix2 r l)) = _
  rw [inBlk_ix2]
  refine (pay2_apply ..).trans ?_
  have : ent (blkV I ⟨r.val / 256, by omega⟩) ⟨r.val % 256, by omega⟩ = Spec.xn (args I) r :=
    funext fun l => (blkV_apply hg _ _ l).trans (by rw [rowIx_of])
  rw [this]; rfl

/-- One chunk of the hidden layer, put through the last one. -/
theorem chunk (hg : GridTwice I) (o : ℕ) (ho : o + 768 ≤ 3072) (W1 : arr S768x768) (bf : arr S1x768) (W2 : arr S768x768)
    (h1 : ∀ k e : Fin 768, ent W1 k e = (args I).W1 k ⟨o + e.val, by omega⟩) (hb : ∀ e : Fin 768, row bf e = (args I).bf1 ⟨o + e.val, by omega⟩)
    (h2 : ∀ e l : Fin 768, ent W2 e l = (args I).W2 ⟨o + e.val, by omega⟩ l) (r : Fin 1024) (l : Fin 768) :
    ∑ e, Spec.gelu (Spec.lin (ent (h2V I) r) (ent W1) (row bf) e) * ent W2 e l
      = ∑ e : Fin 768, Spec.hid (args I) r ⟨o + e.val, by omega⟩ * (args I).W2 ⟨o + e.val, by omega⟩ l := by
  have : ent (h2V I) r = Spec.h2 (args I) r := funext fun l => h2V_apply hg r l
  rw [this]
  refine Finset.sum_congr rfl fun e _ => ?_
  rw [h2]
  congr 1
  unfold Spec.hid Spec.lin
  rw [hb]
  simp only [h1]

theorem w1_at (W : arr S768x3072) (o : ℕ) (inb) (k e : Fin 768) (ho : o + 768 ≤ 3072) :
    ent (window W ![0, o] S768x768.size inb) k e = ent W k ⟨o + e.val, by omega⟩ :=
  (window_ix2 W 0 o inb k e (by omega) (by omega)).trans (by unfold ent; congr 2; exact Fin.ext (Nat.zero_add _))
theorem bf_at (b : arr S1x3072) (o : ℕ) (inb) (e : Fin 768) (ho : o + 768 ≤ 3072) :
    row (window b ![0, o] S1x768.size inb) e = row b ⟨o + e.val, by omega⟩ :=
  (window_ix2 b 0 o inb 0 e (by omega) (by omega)).trans rfl
theorem w2_at (W : arr S3072x768) (o : ℕ) (inb) (e l : Fin 768) (ho : o + 768 ≤ 3072) :
    ent (window W ![o, 0] S768x768.size inb) e l = ent W ⟨o + e.val, by omega⟩ l :=
  (window_ix2 W o 0 inb e l (by omega) (by omega)).trans (by unfold ent; congr 2; exact Fin.ext (Nat.zero_add _))

theorem outV_apply (hg : GridTwice I) (r : Fin 1024) (l : Fin 768) : outV I (ix2 r l) = Spec.out (args I) r l := by
  refine (pay4_apply ..).trans ?_
  have c0 := chunk hg 0 (by omega) (w1C0 I) (bfC0 I) (w2C0 I) (fun k e => w1_at I.W1 0 _ k e (by omega)) (fun e => bf_at I.bf1 0 _ e (by omega))
    (fun e l => w2_at I.W2 0 _ e l (by omega)) r l
  have c1 := chunk hg 768 (by omega) (w1C1 I) (bfC1 I) (w2C1 I) (fun k e => w1_at I.W1 768 _ k e (by omega)) (fun e => bf_at I.bf1 768 _ e (by omega))
    (fun e l => w2_at I.W2 768 _ e l (by omega)) r l
  have c2 := chunk hg 1536 (by omega) (w1C2 I) (bfC2 I) (w2C2 I) (fun k e => w1_at I.W1 1536 _ k e (by omega)) (fun e => bf_at I.bf1 1536 _ e (by omega))
    (fun e l => w2_at I.W2 1536 _ e l (by omega)) r l
  have c3 := chunk hg 2304 (by omega) (w1C3 I) (bfC3 I) (w2C3 I) (fun k e => w1_at I.W1 2304 _ k e (by omega)) (fun e => bf_at I.bf1 2304 _ e (by omega))
    (fun e l => w2_at I.W2 2304 _ e l (by omega)) r l
  have hx : ent (xnV I) r l = Spec.xn (args I) r l := xnV_apply hg r l
  have e1 : ent (f1V I) r l = _ := (pay3_apply ..).trans c0
  have e2 : ent (f2V I) r l = _ := (pay12_apply ..).trans (by rw [c1, e1])
  have e3 : ent (f3V I) r l = _ := (pay13_apply ..).trans (by rw [c2, e2])
  have e4 : ent (k0_pay14 (F := Ideal) (h2V I) (w1C3 I) (bfC3 I) (w2C3 I) (xnV I) (f3V I)) r l = _ := (pay14_apply ..).trans (by rw [c3, e3, hx])
  rw [e4]
  unfold Spec.out Spec.lin
  rw [Spec.sum_four (fun k => Spec.hid (args I) r k * (args I).W2 k l)]
  simp only [Nat.zero_add, add_assoc]
  rfl

end Cert.KernelIdeal.Hand

end
-- ==== Proof.Value.Operands.lean ====
/-
  The kernel's operands are its arguments: the vectors as rows, and the grid's coordinates as numbers, down a column
  and along a row.
-/
module

public import proofs.«01_k».proof.Proof.KI.Data
public import proofs.«01_k».proof.Proof.Value.Ker
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The argument arrays, each at its own shape. -/
def gridA : IVec S1024x2 32 := m ((c : Thread nD τ).loc main_arg1)
def xA : arr S1024x768 := m ((c : Thread nD τ).loc main_arg0)
def WqA : arr S768x768 := m ((c : Thread nD τ).loc main_arg2)
def WkA : arr S768x768 := m ((c : Thread nD τ).loc main_arg4)
def WvA : arr S768x768 := m ((c : Thread nD τ).loc main_arg6)
def WoA : arr S768x768 := m ((c : Thread nD τ).loc main_arg8)
def W1A : arr S768x3072 := m ((c : Thread nD τ).loc main_arg14)
def W2A : arr S3072x768 := m ((c : Thread nD τ).loc main_arg16)
def bqA : arr S768 := m ((c : Thread nD τ).loc main_arg3)
def bkA : arr S768 := m ((c : Thread nD τ).loc main_arg5)
def bvA : arr S768 := m ((c : Thread nD τ).loc main_arg7)
def g1A : arr S768 := m ((c : Thread nD τ).loc main_arg10)
def b1A : arr S768 := m ((c : Thread nD τ).loc main_arg11)
def boA : arr S768 := m ((c : Thread nD τ).loc main_arg9)
def g2A : arr S768 := m ((c : Thread nD τ).loc main_arg12)
def b2A : arr S768 := m ((c : Thread nD τ).loc main_arg13)
def bf1A : arr S3072 := m ((c : Thread nD τ).loc main_arg15)
def bf2A : arr S768 := m ((c : Thread nD τ).loc main_arg17)

/-- The layer's arguments as the memory holds them at the launch. -/
def argsOf : Spec.Args where
  gx r := FloatOps.sitofp (F := Ideal) .f32 (gridA m c (ix2 r 0))
  gy r := FloatOps.sitofp (F := Ideal) .f32 (gridA m c (ix2 r 1))
  x r l := xA m c (ix2 r l)
  Wq r l := WqA m c (ix2 r l)
  Wk r l := WkA m c (ix2 r l)
  Wv r l := WvA m c (ix2 r l)
  Wo r l := WoA m c (ix2 r l)
  W1 r l := W1A m c (ix2 r l)
  W2 r l := W2A m c (ix2 r l)
  bq l := bqA m c (ix1 l)
  bk l := bkA m c (ix1 l)
  bv l := bvA m c (ix1 l)
  g1 l := g1A m c (ix1 l)
  b1 l := b1A m c (ix1 l)
  bo l := boA m c (ix1 l)
  g2 l := g2A m c (ix1 l)
  b2 l := b2A m c (ix1 l)
  bf1 l := bf1A m c (ix1 l)
  bf2 l := bf2A m c (ix1 l)

/-! ## The vectors, each a row of one -/

theorem bq_row : row (inOf m c).bq = (argsOf m c).bq := by
  have e : (V m c main_v9 : arr S1x768) = shapeCast S1x768 (bqA m c) shapeCasts_S768_S1x768 := by
    unfold V
    after_results
    rfl
  funext l
  show (V m c main_v9 : arr S1x768) (ix2 0 l) = bqA m c (ix1 l)
  rw [e]
  pointwise
theorem bk_row : row (inOf m c).bk = (argsOf m c).bk := by
  have e : (V m c main_v10 : arr S1x768) = shapeCast S1x768 (bkA m c) shapeCasts_S768_S1x768 := by
    unfold V
    after_results
    rfl
  funext l
  show (V m c main_v10 : arr S1x768) (ix2 0 l) = bkA m c (ix1 l)
  rw [e]
  pointwise
theorem bv_row : row (inOf m c).bv = (argsOf m c).bv := by
  have e : (V m c main_v11 : arr S1x768) = shapeCast S1x768 (bvA m c) shapeCasts_S768_S1x768 := by
    unfold V
    after_results
    rfl
  funext l
  show (V m c main_v11 : arr S1x768) (ix2 0 l) = bvA m c (ix1 l)
  rw [e]
  pointwise
theorem g1_row : row (inOf m c).g1 = (argsOf m c).g1 := by
  have e : (V m c main_v12 : arr S1x768) = shapeCast S1x768 (g1A m c) shapeCasts_S768_S1x768 := by
    unfold V
    after_results
    rfl
  funext l
  show (V m c main_v12 : arr S1x768) (ix2 0 l) = g1A m c (ix1 l)
  rw [e]
  pointwise
theorem b1_row : row (inOf m c).b1 = (argsOf m c).b1 := by
  have e : (V m c main_v13 : arr S1x768) = shapeCast S1x768 (b1A m c) shapeCasts_S768_S1x768 := by
    unfold V
    after_results
    rfl
  funext l
  show (V m c main_v13 : arr S1x768) (ix2 0 l) = b1A m c (ix1 l)
  rw [e]
  pointwise
theorem bo_row : row (inOf m c).bo = (argsOf m c).bo := by
  have e : (V m c main_v14 : arr S1x768) = shapeCast S1x768 (boA m c) shapeCasts_S768_S1x768 := by
    unfold V
    after_results
    rfl
  funext l
  show (V m c main_v14 : arr S1x768) (ix2 0 l) = boA m c (ix1 l)
  rw [e]
  pointwise
theorem g2_row : row (inOf m c).g2 = (argsOf m c).g2 := by
  have e : (V m c main_v15 : arr S1x768) = shapeCast S1x768 (g2A m c) shapeCasts_S768_S1x768 := by
    unfold V
    after_results
    rfl
  funext l
  show (V m c main_v15 : arr S1x768) (ix2 0 l) = g2A m c (ix1 l)
  rw [e]
  pointwise
theorem b2_row : row (inOf m c).b2 = (argsOf m c).b2 := by
  have e : (V m c main_v16 : arr S1x768) = shapeCast S1x768 (b2A m c) shapeCasts_S768_S1x768 := by
    unfold V
    after_results
    rfl
  funext l
  show (V m c main_v16 : arr S1x768) (ix2 0 l) = b2A m c (ix1 l)
  rw [e]
  pointwise
theorem bf1_row : row (inOf m c).bf1 = (argsOf m c).bf1 := by
  have e : (V m c main_v17 : arr S1x3072) = shapeCast S1x3072 (bf1A m c) shapeCasts_S3072_S1x3072 := by
    unfold V
    after_results
    rfl
  funext l
  show (V m c main_v17 : arr S1x3072) (ix2 0 l) = bf1A m c (ix1 l)
  rw [e]
  pointwise
theorem bf2_row : row (inOf m c).bf2 = (argsOf m c).bf2 := by
  have e : (V m c main_v18 : arr S1x768) = shapeCast S1x768 (bf2A m c) shapeCasts_S768_S1x768 := by
    unfold V
    after_results
    rfl
  funext l
  show (V m c main_v18 : arr S1x768) (ix2 0 l) = bf2A m c (ix1 l)
  rw [e]
  pointwise

/-! ## The grid's coordinates -/

theorem xi_col (r : Fin 1024) : ent (inOf m c).xi r 0 = FloatOps.sitofp (F := Ideal) .f32 (gridA m c (ix2 r 0)) := by
  have e : (V m c main_v1 : arr S1024x1) = extractStridedSlice S1024x1 ![0, 0] (sitofp .f32 (gridA m c) : arr S1024x2) slices_S1024x2_S1024x1_0_0 := by
    unfold V
    after_results
    rfl
  show (V m c main_v1 : arr S1024x1) (ix2 r 0) = _
  rw [e]
  pointwise
theorem yi_col (r : Fin 1024) : ent (inOf m c).yi r 0 = FloatOps.sitofp (F := Ideal) .f32 (gridA m c (ix2 r 1)) := by
  have e : (V m c main_v2 : arr S1024x1) = extractStridedSlice S1024x1 ![0, 1] (sitofp .f32 (gridA m c) : arr S1024x2) slices_S1024x2_S1024x1_0_1 := by
    unfold V
    after_results
    rfl
  show (V m c main_v2 : arr S1024x1) (ix2 r 0) = _
  rw [e]
  pointwise
theorem xr_row (j : Fin 1024) : row (inOf m c).xr j = FloatOps.sitofp (F := Ideal) .f32 (gridA m c (ix2 j 0)) := by
  have e : (V m c main_v5 : arr S1x1024) = shapeCast S1x1024 (shapeCast S1024 (extractStridedSlice S1024x1 ![0, 0] (sitofp .f32 (gridA m c) : arr S1024x2) slices_S1024x2_S1024x1_0_0) shapeCasts_S1024x1_S1024) shapeCasts_S1024_S1x1024 := by
    unfold V
    after_results
    rfl
  show (V m c main_v5 : arr S1x1024) (ix2 0 j) = _
  rw [e]
  pointwise
theorem yr_row (j : Fin 1024) : row (inOf m c).yr j = FloatOps.sitofp (F := Ideal) .f32 (gridA m c (ix2 j 1)) := by
  have e : (V m c main_v8 : arr S1x1024) = shapeCast S1x1024 (shapeCast S1024 (extractStridedSlice S1024x1 ![0, 1] (sitofp .f32 (gridA m c) : arr S1024x2) slices_S1024x2_S1024x1_0_1) shapeCasts_S1024x1_S1024) shapeCasts_S1024_S1x1024 := by
    unfold V
    after_results
    rfl
  show (V m c main_v8 : arr S1x1024) (ix2 0 j) = _
  rw [e]
  pointwise

theorem gridTwice : GridTwice (inOf m c) :=
  ⟨fun j => (xr_row m c j).trans (xi_col m c j).symm, fun j => (yr_row m c j).trans (yi_col m c j).symm⟩

/-! ## The matrices, which are the arguments themselves -/

theorem x_ent : ent (inOf m c).x = (argsOf m c).x := congrArg (ent (n := 1024) (k := 768)) (V_main_arg0 m c)
theorem Wq_ent : ent (inOf m c).Wq = (argsOf m c).Wq := congrArg (ent (n := 768) (k := 768)) (V_main_arg2 m c)
theorem Wk_ent : ent (inOf m c).Wk = (argsOf m c).Wk := congrArg (ent (n := 768) (k := 768)) (V_main_arg4 m c)
theorem Wv_ent : ent (inOf m c).Wv = (argsOf m c).Wv := congrArg (ent (n := 768) (k := 768)) (V_main_arg6 m c)
theorem Wo_ent : ent (inOf m c).Wo = (argsOf m c).Wo := congrArg (ent (n := 768) (k := 768)) (V_main_arg8 m c)
theorem W1_ent : ent (inOf m c).W1 = (argsOf m c).W1 := congrArg (ent (n := 768) (k := 3072)) (V_main_arg14 m c)
theorem W2_ent : ent (inOf m c).W2 = (argsOf m c).W2 := congrArg (ent (n := 3072) (k := 768)) (V_main_arg16 m c)

/-- The kernel's operands hold the layer's arguments. -/
theorem args_inOf : args (inOf m c) = argsOf m c := by
  have hx : (fun r => ent (inOf m c).xi r 0) = (argsOf m c).gx := funext fun r => xi_col m c r
  have hy : (fun r => ent (inOf m c).yi r 0) = (argsOf m c).gy := funext fun r => yi_col m c r
  unfold args
  rw [hx, hy, x_ent m c, Wq_ent m c, Wk_ent m c, Wv_ent m c, Wo_ent m c, W1_ent m c, W2_ent m c, bq_row m c, bk_row m c, bv_row m c, g1_row m c, b1_row m c, bo_row m c, g2_row m c, b2_row m c, bf1_row m c, bf2_row m c]

end Cert.KernelIdeal.Hand

end
-- ==== Proof.Value.Meet.lean ====
/-
  From arguments that agree, the kernel's result and the reference's are the same array.
-/
module

public import proofs.«01_k».proof.Proof.Value.Ref
public import proofs.«01_k».proof.Proof.Value.Operands

@[expose] public section

set_option maxRecDepth 16384

noncomputable section

namespace Cert.Meet

open Idealize.ShloMosaic Idealize.ShloMosaic.TcCoe Idealize.SL.Sem
open Idealize.ShloMosaic.StableHlo (launchContents)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Two records of arguments with the same fields are the same. -/
theorem args_ext (A B : Spec.Args) (e_x : A.x = B.x) (e_gx : A.gx = B.gx) (e_gy : A.gy = B.gy) (e_Wq : A.Wq = B.Wq) (e_bq : A.bq = B.bq) (e_Wk : A.Wk = B.Wk) (e_bk : A.bk = B.bk) (e_Wv : A.Wv = B.Wv) (e_bv : A.bv = B.bv) (e_Wo : A.Wo = B.Wo) (e_bo : A.bo = B.bo) (e_g1 : A.g1 = B.g1) (e_b1 : A.b1 = B.b1) (e_g2 : A.g2 = B.g2) (e_b2 : A.b2 = B.b2) (e_W1 : A.W1 = B.W1) (e_bf1 : A.bf1 = B.bf1) (e_W2 : A.W2 = B.W2) (e_bf2 : A.bf2 = B.bf2) : A = B := by
  cases A; cases B; simp_all

/-- Memories that agree on the arguments hold the same layer's arguments. -/
theorem args_eq
    (h0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (h1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (h2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (h3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (h4 : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (h5 : m' ((c : Thread Cert.ReferenceIdeal.nD Cert.ReferenceIdeal.τ).loc Cert.ReferenceIdeal.main_arg5) = m ((c : Thread Cert.KernelIdeal.nD Cert.KernelIdeal.τ).loc Cert.KernelIdeal.main_arg5))
    (h6 : m' ((c : Thread Cert.ReferenceIdeal.nD Cert.ReferenceIdeal.τ).loc Cert.ReferenceIdeal.main_arg6) = m ((c : Thread Cert.KernelIdeal.nD Cert.KernelIdeal.τ).loc Cert.KernelIdeal.main_arg6))
    (h7 : m' ((c : Thread Cert.ReferenceIdeal.nD Cert.ReferenceIdeal.τ).loc Cert.ReferenceIdeal.main_arg7) = m ((c : Thread Cert.KernelIdeal.nD Cert.KernelIdeal.τ).loc Cert.KernelIdeal.main_arg7))
    (h8 : m' ((c : Thread Cert.ReferenceIdeal.nD Cert.ReferenceIdeal.τ).loc Cert.ReferenceIdeal.main_arg8) = m ((c : Thread Cert.KernelIdeal.nD Cert.KernelIdeal.τ).loc Cert.KernelIdeal.main_arg8))
    (h9 : m' ((c : Thread Cert.ReferenceIdeal.nD Cert.ReferenceIdeal.τ).loc Cert.ReferenceIdeal.main_arg9) = m ((c : Thread Cert.KernelIdeal.nD Cert.KernelIdeal.τ).loc Cert.KernelIdeal.main_arg9))
    (h10 : m' ((c : Thread Cert.ReferenceIdeal.nD Cert.ReferenceIdeal.τ).loc Cert.ReferenceIdeal.main_arg10) = m ((c : Thread Cert.KernelIdeal.nD Cert.KernelIdeal.τ).loc Cert.KernelIdeal.main_arg10))
    (h11 : m' ((c : Thread Cert.ReferenceIdeal.nD Cert.ReferenceIdeal.τ).loc Cert.ReferenceIdeal.main_arg11) = m ((c : Thread Cert.KernelIdeal.nD Cert.KernelIdeal.τ).loc Cert.KernelIdeal.main_arg11))
    (h12 : m' ((c : Thread Cert.ReferenceIdeal.nD Cert.ReferenceIdeal.τ).loc Cert.ReferenceIdeal.main_arg12) = m ((c : Thread Cert.KernelIdeal.nD Cert.KernelIdeal.τ).loc Cert.KernelIdeal.main_arg12))
    (h13 : m' ((c : Thread Cert.ReferenceIdeal.nD Cert.ReferenceIdeal.τ).loc Cert.ReferenceIdeal.main_arg13) = m ((c : Thread Cert.KernelIdeal.nD Cert.KernelIdeal.τ).loc Cert.KernelIdeal.main_arg13))
    (h14 : m' ((c : Thread Cert.ReferenceIdeal.nD Cert.ReferenceIdeal.τ).loc Cert.ReferenceIdeal.main_arg14) = m ((c : Thread Cert.KernelIdeal.nD Cert.KernelIdeal.τ).loc Cert.KernelIdeal.main_arg14))
    (h15 : m' ((c : Thread Cert.ReferenceIdeal.nD Cert.ReferenceIdeal.τ).loc Cert.ReferenceIdeal.main_arg15) = m ((c : Thread Cert.KernelIdeal.nD Cert.KernelIdeal.τ).loc Cert.KernelIdeal.main_arg15))
    (h16 : m' ((c : Thread Cert.ReferenceIdeal.nD Cert.ReferenceIdeal.τ).loc Cert.ReferenceIdeal.main_arg16) = m ((c : Thread Cert.KernelIdeal.nD Cert.KernelIdeal.τ).loc Cert.KernelIdeal.main_arg16))
    (h17 : m' ((c : Thread Cert.ReferenceIdeal.nD Cert.ReferenceIdeal.τ).loc Cert.ReferenceIdeal.main_arg17) = m ((c : Thread Cert.KernelIdeal.nD Cert.KernelIdeal.τ).loc Cert.KernelIdeal.main_arg17)) :
    Cert.ReferenceIdeal.Hand.args (launchContents m' c) = Cert.KernelIdeal.Hand.argsOf m c := by
  have e_x : (Cert.ReferenceIdeal.Hand.args (launchContents m' c)).x = (Cert.KernelIdeal.Hand.argsOf m c).x := funext fun r => funext fun l => congrFun h0 (ix2 r l)
  have e_gx : (Cert.ReferenceIdeal.Hand.args (launchContents m' c)).gx = (Cert.KernelIdeal.Hand.argsOf m c).gx :=
    funext fun r => congrArg (FloatOps.sitofp (F := Ideal) .f32) (congrFun h1 (ix2 r 0) : (_ : BitVec 32) = _)
  have e_gy : (Cert.ReferenceIdeal.Hand.args (launchContents m' c)).gy = (Cert.KernelIdeal.Hand.argsOf m c).gy :=
    funext fun r => congrArg (FloatOps.sitofp (F := Ideal) .f32) (congrFun h1 (ix2 r 1) : (_ : BitVec 32) = _)
  have e_Wq : (Cert.ReferenceIdeal.Hand.args (launchContents m' c)).Wq = (Cert.KernelIdeal.Hand.argsOf m c).Wq := funext fun r => funext fun l => congrFun h2 (ix2 r l)
  have e_bq : (Cert.ReferenceIdeal.Hand.args (launchContents m' c)).bq = (Cert.KernelIdeal.Hand.argsOf m c).bq := funext fun l => congrFun h3 (ix1 l)
  have e_Wk : (Cert.ReferenceIdeal.Hand.args (launchContents m' c)).Wk = (Cert.KernelIdeal.Hand.argsOf m c).Wk := funext fun r => funext fun l => congrFun h4 (ix2 r l)
  have e_bk : (Cert.ReferenceIdeal.Hand.args (launchContents m' c)).bk = (Cert.KernelIdeal.Hand.argsOf m c).bk := funext fun l => congrFun h5 (ix1 l)
  have e_Wv : (Cert.ReferenceIdeal.Hand.args (launchContents m' c)).Wv = (Cert.KernelIdeal.Hand.argsOf m c).Wv := funext fun r => funext fun l => congrFun h6 (ix2 r l)
  have e_bv : (Cert.ReferenceIdeal.Hand.args (launchContents m' c)).bv = (Cert.KernelIdeal.Hand.argsOf m c).bv := funext fun l => congrFun h7 (ix1 l)
  have e_Wo : (Cert.ReferenceIdeal.Hand.args (launchContents m' c)).Wo = (Cert.KernelIdeal.Hand.argsOf m c).Wo := funext fun r => funext fun l => congrFun h8 (ix2 r l)
  have e_bo : (Cert.ReferenceIdeal.Hand.args (launchContents m' c)).bo = (Cert.KernelIdeal.Hand.argsOf m c).bo := funext fun l => congrFun h9 (ix1 l)
  have e_g1 : (Cert.ReferenceIdeal.Hand.args (launchContents m' c)).g1 = (Cert.KernelIdeal.Hand.argsOf m c).g1 := funext fun l => congrFun h10 (ix1 l)
  have e_b1 : (Cert.ReferenceIdeal.Hand.args (launchContents m' c)).b1 = (Cert.KernelIdeal.Hand.argsOf m c).b1 := funext fun l => congrFun h11 (ix1 l)
  have e_g2 : (Cert.ReferenceIdeal.Hand.args (launchContents m' c)).g2 = (Cert.KernelIdeal.Hand.argsOf m c).g2 := funext fun l => congrFun h12 (ix1 l)
  have e_b2 : (Cert.ReferenceIdeal.Hand.args (launchContents m' c)).b2 = (Cert.KernelIdeal.Hand.argsOf m c).b2 := funext fun l => congrFun h13 (ix1 l)
  have e_W1 : (Cert.ReferenceIdeal.Hand.args (launchContents m' c)).W1 = (Cert.KernelIdeal.Hand.argsOf m c).W1 := funext fun r => funext fun l => congrFun h14 (ix2 r l)
  have e_bf1 : (Cert.ReferenceIdeal.Hand.args (launchContents m' c)).bf1 = (Cert.KernelIdeal.Hand.argsOf m c).bf1 := funext fun l => congrFun h15 (ix1 l)
  have e_W2 : (Cert.ReferenceIdeal.Hand.args (launchContents m' c)).W2 = (Cert.KernelIdeal.Hand.argsOf m c).W2 := funext fun r => funext fun l => congrFun h16 (ix2 r l)
  have e_bf2 : (Cert.ReferenceIdeal.Hand.args (launchContents m' c)).bf2 = (Cert.KernelIdeal.Hand.argsOf m c).bf2 := funext fun l => congrFun h17 (ix1 l)
  exact args_ext _ _ e_x e_gx e_gy e_Wq e_bq e_Wk e_bk e_Wv e_bv e_Wo e_bo e_g1 e_b1 e_g2 e_b2 e_W1 e_bf1 e_W2 e_bf2

/-- The reference's result is the kernel's. -/
theorem out_eq (h : Cert.ReferenceIdeal.Hand.args (launchContents m' c) = Cert.KernelIdeal.Hand.argsOf m c) :
    Cert.ReferenceIdeal.Hand.tOut (launchContents m' c) = Cert.KernelIdeal.Hand.outV (Cert.KernelIdeal.Hand.inOf m c) := by
  funext y
  idx_vars y
  rw [Cert.ReferenceIdeal.Hand.tOut_apply, Cert.KernelIdeal.Hand.outV_apply (Cert.KernelIdeal.Hand.gridTwice m c),
    Cert.KernelIdeal.Hand.args_inOf, h]

end Cert.Meet

end
-- ==== Proof.lean ====
/-
  The claims, put together: the three frames, what the two named constants stand for, and that over the extended
  reals the kernel and the reference leave the same result.
-/
module

public import proofs.«01_k».proof.Defs
public import proofs.«01_k».proof.Proof.K.Frame
public import proofs.«01_k».proof.Proof.KI.Frame
public import proofs.«01_k».proof.Proof.Value.Meet
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The kernel as printed: arguments unchanged, every cell at rest. -/
theorem frame_k : Cert.quiescent_Kernel := fun m ρ _ => Cert.Kernel.Hand.frame (F := Bits) m ρ
/-- The same of the kernel over the extended reals. -/
theorem frame_ki : Cert.quiescent_KernelIdeal := fun m ρ _ => Cert.KernelIdeal.Hand.frame (F := Ideal) m ρ
/-- The same of the reference, which has no cells. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The two named constants are what the table says. -/
theorem preserves : Cert.preserves_Kernel_KernelIdeal :=
  ⟨IdealRules.named_const.statement Cert.KernelIdeal.κ "scale" .f32 0x3D13CD3A#32 (((Real.sqrt 768)⁻¹ : ℝ) : EReal) rfl,
    IdealRules.named_const.statement Cert.KernelIdeal.κ "neg" .bf16 0xFF7F#16 ⊥ rfl⟩

/-- Over the extended reals the kernel's result is the reference's. -/
theorem algebraic : Cert.algebraic_KernelIdeal_ReferenceIdeal := by
  intro m ρ m' ρ' _ hagree
  refine ⟨fun c => Cert.KernelIdeal.Hand.outV (Cert.KernelIdeal.Hand.inOf m c),
    (θ_run Cert.KernelIdeal.defs _ _).mono (fun r h c => h.1 c) (Cert.KernelIdeal.Hand.run_all (F := Ideal) m ρ),
    (θ_run Cert.ReferenceIdeal.defs _ _).mono (fun r h c => ⟨(h c).1.trans ?_, (h c).2⟩) (Cert.ReferenceIdeal.Value.run (F := Ideal) m' ρ')⟩
  obtain ⟨h0, h1, h2, h3, h4, h5, h6, h7, h8, h9, h10, h11, h12, h13, h14, h15, h16, h17⟩ := hagree c
  exact Cert.Meet.out_eq m m' c (Cert.Meet.args_eq m m' c h0 h1 h2 h3 h4 h5 h6 h7 h8 h9 h10 h11 h12 h13 h14 h15 h16 h17)

theorem claim : Cert.Claim :=
  ⟨Cert.Kernel.Gen.facts, Cert.KernelIdeal.Gen.facts, Cert.ReferenceIdeal.Gen.facts, frame_k, frame_ki, frame_ri, preserves, algebraic⟩

end Cert.Proof

end
